-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x32x128 : Shape := ⟨4, ![3, 512, 32, 128]⟩
abbrev S3x512 : Shape := ⟨2, ![3, 512]⟩
abbrev S3x512x8x128 : Shape := ⟨4, ![3, 512, 8, 128]⟩
abbrev S3x512x8 : Shape := ⟨3, ![3, 512, 8]⟩
abbrev S3x512x32 : Shape := ⟨3, ![3, 512, 32]⟩
abbrev S3x8x512x128 : Shape := ⟨4, ![3, 8, 512, 128]⟩
abbrev S3x1x512 : Shape := ⟨3, ![3, 1, 512]⟩
abbrev S3x512x1 : Shape := ⟨3, ![3, 512, 1]⟩
abbrev S1x128x32x128 : Shape := ⟨4, ![1, 128, 32, 128]⟩
abbrev S1x1x128 : Shape := ⟨3, ![1, 1, 128]⟩
abbrev S1x512x1 : Shape := ⟨3, ![1, 512, 1]⟩
abbrev S1x8x512x128 : Shape := ⟨4, ![1, 8, 512, 128]⟩
abbrev S1x512x8 : Shape := ⟨3, ![1, 512, 8]⟩
abbrev S1x128x32 : Shape := ⟨3, ![1, 128, 32]⟩
abbrev S128x32x128 : Shape := ⟨3, ![128, 32, 128]⟩
abbrev S128x32 : Shape := ⟨2, ![128, 32]⟩
abbrev S128x32x1 : Shape := ⟨3, ![128, 32, 1]⟩
abbrev S32x128 : Shape := ⟨2, ![32, 128]⟩
abbrev S512x1 : Shape := ⟨2, ![512, 1]⟩
abbrev S1x128 : Shape := ⟨2, ![1, 128]⟩
abbrev S512x128 : Shape := ⟨2, ![512, 128]⟩
abbrev S1x1x512x128 : Shape := ⟨4, ![1, 1, 512, 128]⟩
abbrev S128x1x128 : Shape := ⟨3, ![128, 1, 128]⟩
abbrev S128x128 : Shape := ⟨2, ![128, 128]⟩
abbrev S128 : Shape := ⟨1, ![128]⟩
abbrev S2x128 : Shape := ⟨2, ![2, 128]⟩
abbrev S128x2 : Shape := ⟨2, ![128, 2]⟩
abbrev S1x128x1x128 : Shape := ⟨4, ![1, 128, 1, 128]⟩
abbrev S128x1 : Shape := ⟨2, ![128, 1]⟩

abbrev nBuf : Space → Nat
  | .hbm => 15
  | .vmem => 27
  | .smem => 2
  | _ => 0

abbrev bufTy : (tb : Table) → Fin (tcTables nBuf tb) → BufTy
  | .hbm, ⟨0, _⟩ => ⟨S3x512x32x128, .bf16⟩
  | .hbm, ⟨1, _⟩ => ⟨S3x512x8x128, .fp8e4m3⟩
  | .hbm, ⟨2, _⟩ => ⟨S3x512x8, .f32⟩
  | .hbm, ⟨3, _⟩ => ⟨S3x512x8x128, .fp8e4m3⟩
  | .hbm, ⟨4, _⟩ => ⟨S3x512x8, .f32⟩
  | .hbm, ⟨5, _⟩ => ⟨S3x512x32x128, .f32⟩
  | .hbm, ⟨6, _⟩ => ⟨S3x512x32, .f32⟩
  | .hbm, ⟨7, _⟩ => ⟨S3x8x512x128, .fp8e4m3⟩
  | .hbm, ⟨8, _⟩ => ⟨S3x8x512x128, .fp8e4m3⟩
  | .hbm, ⟨9, _⟩ => ⟨S3x1x512, .i32⟩
  | .hbm, ⟨10, _⟩ => ⟨S3x512x1, .i32⟩
  | .hbm, ⟨11, _⟩ => ⟨S3x512x32x128, .f32⟩
  | .hbm, ⟨12, _⟩ => ⟨S3x512x32, .f32⟩
  | .hbm, ⟨13, _⟩ => ⟨S3x512x32x128, .fp8e4m3⟩
  | .hbm, ⟨14, _⟩ => ⟨S3x512x32, .f32⟩
  | .local _ .vmem, ⟨0, _⟩ => ⟨S1x128x32x128, .bf16⟩
  | .local _ .vmem, ⟨1, _⟩ => ⟨S1x128x32x128, .bf16⟩
  | .local _ .vmem, ⟨2, _⟩ => ⟨S1x1x128, .i32⟩
  | .local _ .vmem, ⟨3, _⟩ => ⟨S1x1x128, .i32⟩
  | .local _ .vmem, ⟨4, _⟩ => ⟨S1x512x1, .i32⟩
  | .local _ .vmem, ⟨5, _⟩ => ⟨S1x512x1, .i32⟩
  | .local _ .vmem, ⟨6, _⟩ => ⟨S1x8x512x128, .fp8e4m3⟩
  | .local _ .vmem, ⟨7, _⟩ => ⟨S1x8x512x128, .fp8e4m3⟩
  | .local _ .vmem, ⟨8, _⟩ => ⟨S1x512x8, .f32⟩
  | .local _ .vmem, ⟨9, _⟩ => ⟨S1x512x8, .f32⟩
  | .local _ .vmem, ⟨10, _⟩ => ⟨S1x8x512x128, .fp8e4m3⟩
  | .local _ .vmem, ⟨11, _⟩ => ⟨S1x8x512x128, .fp8e4m3⟩
  | .local _ .vmem, ⟨12, _⟩ => ⟨S1x512x8, .f32⟩
  | .local _ .vmem, ⟨13, _⟩ => ⟨S1x512x8, .f32⟩
  | .local _ .vmem, ⟨14, _⟩ => ⟨S1x128x32x128, .f32⟩
  | .local _ .vmem, ⟨15, _⟩ => ⟨S1x128x32x128, .f32⟩
  | .local _ .vmem, ⟨16, _⟩ => ⟨S1x128x32, .f32⟩
  | .local _ .vmem, ⟨17, _⟩ => ⟨S1x128x32, .f32⟩
  | .local _ .vmem, ⟨18, _⟩ => ⟨S1x128x32x128, .f32⟩
  | .local _ .vmem, ⟨19, _⟩ => ⟨S1x128x32x128, .f32⟩
  | .local _ .vmem, ⟨20, _⟩ => ⟨S1x128x32, .f32⟩
  | .local _ .vmem, ⟨21, _⟩ => ⟨S1x128x32, .f32⟩
  | .local _ .vmem, ⟨22, _⟩ => ⟨S1x128x32x128, .fp8e4m3⟩
  | .local _ .vmem, ⟨23, _⟩ => ⟨S1x128x32x128, .fp8e4m3⟩
  | .local _ .vmem, ⟨24, _⟩ => ⟨S1x128x32, .f32⟩
  | .local _ .vmem, ⟨25, _⟩ => ⟨S1x128x32, .f32⟩
  | .local _ .vmem, ⟨26, _⟩ => ⟨S128x32x128, .f32⟩
  | .local _ .smem, ⟨0, _⟩ => ⟨S3x512, .i32⟩
  | .local _ .smem, ⟨1, _⟩ => ⟨S3x512, .i32⟩
  | _, _ => ⟨S3x512x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![3, 4], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x32x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S3x512x32x128 : Shape := ⟨4, ![3, 512, 32, 128]⟩
abbrev S3x512 : Shape := ⟨2, ![3, 512]⟩
abbrev S3x512x8x128 : Shape := ⟨4, ![3, 512, 8, 128]⟩
abbrev S3x512x8 : Shape := ⟨3, ![3, 512, 8]⟩
abbrev S3x512x32 : Shape := ⟨3, ![3, 512, 32]⟩
abbrev S3x512x32x1 : Shape := ⟨4, ![3, 512, 32, 1]⟩
abbrev S3x8x512 : Shape := ⟨3, ![3, 8, 512]⟩
abbrev S3x8x1x1x512 : Shape := ⟨5, ![3, 8, 1, 1, 512]⟩
abbrev S3x512x8x4x128 : Shape := ⟨5, ![3, 512, 8, 4, 128]⟩
abbrev S3x512x8x4 : Shape := ⟨4, ![3, 512, 8, 4]⟩
abbrev S3x8x4x512 : Shape := ⟨4, ![3, 8, 4, 512]⟩
abbrev S3x1x512 : Shape := ⟨3, ![3, 1, 512]⟩
abbrev S3x512x1 : Shape := ⟨3, ![3, 512, 1]⟩
abbrev S3x512x512 : Shape := ⟨3, ![3, 512, 512]⟩
abbrev S3x8x512x512x4 : Shape := ⟨5, ![3, 8, 512, 512, 4]⟩
abbrev S3x8x4x512x512 : Shape := ⟨5, ![3, 8, 4, 512, 512]⟩
abbrev S3x8x4x512x1 : Shape := ⟨5, ![3, 8, 4, 512, 1]⟩
abbrev S3x1x1x512x512 : Shape := ⟨5, ![3, 1, 1, 512, 512]⟩
abbrev S3x8x128x4x512 : Shape := ⟨5, ![3, 8, 128, 4, 512]⟩
abbrev S3x512x8x4x1 : Shape := ⟨5, ![3, 512, 8, 4, 1]⟩

abbrev nBuf : Space → Nat
  | .hbm => 13
  | .vmem => 13
  | .smem => 0
  | _ => 0

abbrev bufTy : (tb : Table) → Fin (tcTables nBuf tb) → BufTy
  | .hbm, ⟨0, _⟩ => ⟨S3x512x32x128, .bf16⟩
  | .hbm, ⟨1, _⟩ => ⟨S3x512, .i32⟩
  | .hbm, ⟨2, _⟩ => ⟨S3x512, .i32⟩
  | .hbm, ⟨3, _⟩ => ⟨S3x512x8x128, .fp8e4m3⟩
  | .hbm, ⟨4, _⟩ => ⟨S3x512x8, .f32⟩
  | .hbm, ⟨5, _⟩ => ⟨S3x512x8x128, .fp8e4m3⟩
  | .hbm, ⟨6, _⟩ => ⟨S3x512x8, .f32⟩
  | .hbm, ⟨7, _⟩ => ⟨S3x512x32x128, .f32⟩
  | .hbm, ⟨8, _⟩ => ⟨S3x512x32, .f32⟩
  | .hbm, ⟨9, _⟩ => ⟨S3x512x32x128, .f32⟩
  | .hbm, ⟨10, _⟩ => ⟨S3x512x32, .f32⟩
  | .hbm, ⟨11, _⟩ => ⟨S3x512x32x128, .fp8e4m3⟩
  | .hbm, ⟨12, _⟩ => ⟨S3x512x32, .f32⟩
  | .local _ .vmem, ⟨0, _⟩ => ⟨S3x512x32x128, .bf16⟩
  | .local _ .vmem, ⟨1, _⟩ => ⟨S3x512, .i32⟩
  | .local _ .vmem, ⟨2, _⟩ => ⟨S3x512, .i32⟩
  | .local _ .vmem, ⟨3, _⟩ => ⟨S3x512x8x128, .fp8e4m3⟩
  | .local _ .vmem, ⟨4, _⟩ => ⟨S3x512x8, .f32⟩
  | .local _ .vmem, ⟨5, _⟩ => ⟨S3x512x8x128, .fp8e4m3⟩
  | .local _ .vmem, ⟨6, _⟩ => ⟨S3x512x8, .f32⟩
  | .local _ .vmem, ⟨7, _⟩ => ⟨S3x512x32x128, .f32⟩
  | .local _ .vmem, ⟨8, _⟩ => ⟨S3x512x32, .f32⟩
  | .local _ .vmem, ⟨9, _⟩ => ⟨S3x512x32x128, .f32⟩
  | .local _ .vmem, ⟨10, _⟩ => ⟨S3x512x32, .f32⟩
  | .local _ .vmem, ⟨11, _⟩ => ⟨S3x512x32x128, .fp8e4m3⟩
  | .local _ .vmem, ⟨12, _⟩ => ⟨S3x512x32, .f32⟩
  | _, _ => ⟨S3x512x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S3x512x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x512x8x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x512x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x512x8x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x512x32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x512x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x512x32x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x512x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x512x32x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x512x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Spec.lean ====
/-
One query row of the step, in plain mathematics: what a row of queries, read against the keys and values of its
batch, contributes to each of the four results.  Neither program is mentioned here.
-/
module

public import Idealize.ShloMosaic.Lib.Pointwise

@[expose] public section

noncomputable section

namespace Cert.Spec

open Idealize.ShloMosaic

variable {F : FTy → Type} [FloatOps F]

/-- The quantisation scale of a row whose largest magnitude is `a`. -/
def scaleOf (a : F .f32) : F .f32 :=
  Scalar.select (FloatOps.cmpf .oeq a (FloatOps.ofBits .f32 0#32)) (FloatOps.ofBits .f32 1065353216#32)
    (FloatOps.divf a (FloatOps.ofBits .f32 1138753536#32))

/-- An entry over its scale, held between the largest codes. -/
def clipOf (x s : F .f32) : F .f32 :=
  FloatOps.minimumf (FloatOps.ofBits .f32 1138753536#32)
    (FloatOps.maximumf (FloatOps.ofBits .f32 3286237184#32) (FloatOps.divf x s))

/-- The bottom of the running maxima. -/
def bot : EReal := Ideal.ofBits .f32 4286578688#32

/-- The largest of a finite family. -/
def top {n : Nat} (f : Fin n → EReal) : EReal := Finset.fold max bot f Finset.univ

/-- A query row with everything its results depend on. -/
structure Row where
  x : Fin 128 → EReal
  k : Fin 512 → Fin 128 → EReal
  ks : Fin 512 → EReal
  v : Fin 512 → Fin 128 → EReal
  vs : Fin 512 → EReal
  vis : Fin 512 → BitVec 1
  o : Fin 128 → EReal
  lse : EReal

namespace Row

variable (R : Row)

/-- The scale of the row. -/
def scale : EReal := scaleOf (F := Ideal) (top fun d => max (R.x d) (-R.x d))
/-- Its codes. -/
def code (d : Fin 128) : EReal := clipOf (F := Ideal) (R.x d) R.scale
/-- The masked scores, in base two. -/
def s2 (j : Fin 512) : EReal :=
  Scalar.select (R.vis j)
    ((∑ d, R.k j d * R.code d) * R.scale * R.ks j * Ideal.ofBits .f32 1035273459#32 * Ideal.ofBits .f32 1069066811#32)
    bot
/-- The integer shift. -/
def m : EReal := Ideal.liftRound Int.ceil (max R.lse (top R.s2))
/-- The weight of the running accumulator. -/
def w : EReal := Ideal.exp2 (R.lse - R.m)
/-- The weight of a key. -/
def p (j : Fin 512) : EReal := Ideal.exp2 (R.s2 j - R.m)
/-- The normaliser. -/
def l : EReal := R.w + ∑ j, R.p j
/-- The weighted values. -/
def pv (d : Fin 128) : EReal := ∑ j, R.p j * R.vs j * R.v j d
/-- The merged output. -/
def out (d : Fin 128) : EReal := Ideal.div (R.o d * R.w + R.pv d) R.l
/-- The merged log-sum-exp. -/
def lseOut : EReal :=
  R.m + Ideal.div (Ideal.log R.l) (Ideal.ofBits .f32 1060205080#32) - Ideal.ofBits .f32 1091567616#32

end Row

/-- The key/value head a query head reads. -/
def kvOf (h : Fin 32) : Fin 8 := ⟨h.val / 4, by have := h.isLt; omega⟩

/-- The row of batch `b`, query `i` and head `h`, of the nine arrays the step is given. -/
def rowAt (q : Shape.Idx ⟨4, ![3, 512, 32, 128]⟩ → EReal) (qPos kvPos : Shape.Idx ⟨2, ![3, 512]⟩ → BitVec 32)
    (k : Shape.Idx ⟨4, ![3, 512, 8, 128]⟩ → EReal) (ks : Shape.Idx ⟨3, ![3, 512, 8]⟩ → EReal)
    (v : Shape.Idx ⟨4, ![3, 512, 8, 128]⟩ → EReal) (vs : Shape.Idx ⟨3, ![3, 512, 8]⟩ → EReal)
    (o : Shape.Idx ⟨4, ![3, 512, 32, 128]⟩ → EReal) (lse : Shape.Idx ⟨3, ![3, 512, 32]⟩ → EReal)
    (b : Fin 3) (i : Fin 512) (h : Fin 32) : Row where
  x d := q (ix4 b i h d)
  k j d := k (ix4 b j (kvOf h) d)
  ks j := ks (ix3 b j (kvOf h))
  v j d := v (ix4 b j (kvOf h) d)
  vs j := vs (ix3 b j (kvOf h))
  vis j := IntOp.cmpi .sle (kvPos (ix2 b j)) (qPos (ix2 b i))
  o d := o (ix4 b i h d)
  lse := lse (ix3 b i h)

end Cert.Spec
-- ==== Proof.Head.lean ====
/-
The body of the kernel, one query head at a time.  The printed kernel unrolls its thirty-two heads; here one
function of the head number gives what each of them computes from the blocks it reads, and the pieces the body
stores are shown to be that function's values.
-/
module

public import proofs.«01_k».proof.Proof.Gen.KernelIdeal.Frame
public import proofs.«01_k».proof.Proof.Spec

@[expose] public section

set_option synthInstance.maxSize 4096

noncomputable section

namespace Cert.KernelIdeal.Head

open Idealize.ShloMosaic Idealize.SL.Sem
open Cert.KernelIdeal Cert.KernelIdeal.Gen

variable {F : FTy → Type} [FloatOps F]

/-! ## One head, over the vectors it reads -/

/-- The masked base-two scores of one head: keys down, queries across. -/
def s2 (vis : IVec S512x128 1) (kk : FVec F S512x128 .fp8e4m3) (ks : FVec F S512x1 .f32) (qh : Vec F S128x1x128 .f32)
    (scRow : FVec F S1x128 .f32) : FVec F S512x128 .f32 :=
  select vis
    (mulf (mulf (mulf (mulf
      (matmul dot_S512x128_S128x128_S512x128_1_1_0_0_n_n none kk
        (truncf .fp8e4m3 (shapeCast S128x128 qh shapeCasts_S128x1x128_S128x128) bitsLt_fp8e4m3_f32)
        (constant S512x128 .f32 0x00000000#32))
      (broadcastTo S512x128 scRow broadcasts_S1x128_S512x128))
      (broadcastTo S512x128 ks broadcasts_S512x1_S512x128))
      (broadcast S512x128 (Scalar.ofBits .f32 0x3DB504F3#32)))
      (broadcast S512x128 (Scalar.ofBits .f32 0x3FB8AA3B#32)))
    (broadcast S512x128 (Scalar.ofBits .f32 0xFF800000#32))

/-- The integer shift of one head, a row over the queries. -/
def shift (lse : FVec F S1x128 .f32) (s : FVec F S512x128 .f32) : FVec F S1x128 .f32 :=
  ceil (maximumf lse (shapeCast S1x128
    (multiReduction .maximumf [0] S128 s 0xFF800000#32 reduces_S512x128_S128 (.inl rfl) rfl) shapeCasts_S128_S1x128))

/-- The weight of the running accumulator. -/
def wgt (lse m : FVec F S1x128 .f32) : FVec F S1x128 .f32 := exp2 (subf lse m)

/-- The weights of the keys. -/
def prob (s : FVec F S512x128 .f32) (m : FVec F S1x128 .f32) : FVec F S512x128 .f32 :=
  exp2 (subf s (broadcastTo S512x128 m broadcasts_S1x128_S512x128))

/-- The normaliser. -/
def norm (w : FVec F S1x128 .f32) (p : FVec F S512x128 .f32) : FVec F S1x128 .f32 :=
  addf w (shapeCast S1x128
    (multiReduction .add [0] S128 p 0x00000000#32 reduces_S512x128_S128 (.inl rfl) rfl) shapeCasts_S128_S1x128)

/-- The weighted sum of the values. -/
def mix (p : FVec F S512x128 .f32) (vs : FVec F S512x1 .f32) (vv : FVec F S512x128 .bf16) : FVec F S128x128 .f32 :=
  matmul dot_S512x128_S512x128_S128x128_0_0_1_1_n_n none
    (truncf .bf16 (mulf p (broadcastTo S512x128 vs broadcasts_S512x1_S512x128)) bitsLt_bf16_f32) vv
    (constant S128x128 .f32 0x00000000#32)

/-- The two row vectors stood up as the columns of one. -/
def cols (w l : FVec F S1x128 .f32) : FVec F S128x2 .f32 :=
  transpose S128x2 [1, 0] (concatenate S2x128 0 [⟨S1x128, w⟩, ⟨S1x128, l⟩] concatenates_S1x128_S1x128_S2x128_d0)
    transposes_S2x128_p1_0_S128x2

/-- The merged output of one head. -/
def merged (o : Vec F S1x128x1x128 .f32) (wl : FVec F S128x2 .f32) (pv : FVec F S128x128 .f32) :
    FVec F S1x128x1x128 .f32 :=
  shapeCast S1x128x1x128
    (divf (addf (mulf (shapeCast S128x128 o shapeCasts_S1x128x1x128_S128x128)
      (broadcastTo S128x128 (extractStridedSlice S128x1 ![0, 0] wl slices_S128x2_o0_0_S128x1)
        broadcasts_S128x1_S128x128)) pv)
      (broadcastTo S128x128 (extractStridedSlice S128x1 ![0, 1] wl slices_S128x2_o0_1_S128x1)
        broadcasts_S128x1_S128x128))
    shapeCasts_S128x128_S1x128x1x128

/-- The merged log-sum-exp of one head. -/
def mergedLse (m l : FVec F S1x128 .f32) : FVec F S1x128 .f32 :=
  subf (addf m (divf (log l) (broadcast S1x128 (Scalar.ofBits .f32 0x3F317218#32))))
    (broadcast S1x128 (Scalar.ofBits .f32 0x41100000#32))

/-! ## One head, over what the body loads -/

/-- What the body loads, the head-indexed loads as functions of the head. -/
structure Loads (F : FTy → Type) where
  q : Vec F S1x128x32x128 .bf16
  qp : Vec F S1x1x128 .i32
  kp : Vec F S1x512x1 .i32
  k : Fin 8 → Vec F S1x1x512x128 .fp8e4m3
  ks : Fin 8 → Vec F S1x512x1 .f32
  v : Fin 8 → Vec F S1x1x512x128 .fp8e4m3
  vs : Fin 8 → Vec F S1x512x1 .f32
  o : Fin 32 → Vec F S1x128x1x128 .f32
  lse : Vec F S1x128x32 .f32
  qh : Fin 32 → Vec F S128x1x128 .f32

theorem slicesRow (h : Fin 32) : S32x128.Slices ![h.val, 0] S1x128 := by
  revert h; decide

theorem inbO (h : Fin 32) : ∀ a, (![0, 0, h.val, 0] : Fin 4 → Nat) a + S1x128x1x128.size a ≤ S1x128x32x128.size a := by
  revert h; decide

theorem inbQ (h : Fin 32) : ∀ a, (![0, h.val, 0] : Fin 3 → Nat) a + S128x1x128.size a ≤ S128x32x128.size a := by
  revert h; decide

theorem inbK (k : Fin 8) : ∀ a, (![0, k.val, 0, 0] : Fin 4 → Nat) a + S1x1x512x128.size a ≤ S1x8x512x128.size a := by
  revert k; decide

theorem inbS (k : Fin 8) : ∀ a, (![0, 0, k.val] : Fin 3 → Nat) a + S1x512x1.size a ≤ S1x512x8.size a := by
  revert k; decide

namespace Loads

variable (L : Loads F)

/-- The scales of the query block, heads down. -/
def scT : FVec F S32x128 .f32 := k0_pay9 L.q
/-- The incoming log-sum-exp, heads down. -/
def lseT : FVec F S32x128 .f32 :=
  transpose S32x128 [1, 0] (shapeCast S128x32 L.lse shapeCasts_S1x128x32_S128x32) transposes_S128x32_p1_0_S32x128
/-- Which key each query sees. -/
def vis : IVec S512x128 1 := k0_pay12 L.kp L.qp

def rowLse (h : Fin 32) : FVec F S1x128 .f32 := extractStridedSlice S1x128 ![h.val, 0] L.lseT (slicesRow h)
def rowSc (h : Fin 32) : FVec F S1x128 .f32 := extractStridedSlice S1x128 ![h.val, 0] L.scT (slicesRow h)

def s2 (h : Fin 32) : FVec F S512x128 .f32 :=
  Head.s2 L.vis (shapeCast S512x128 (L.k (Spec.kvOf h)) shapeCasts_S1x1x512x128_S512x128)
    (shapeCast S512x1 (L.ks (Spec.kvOf h)) shapeCasts_S1x512x1_S512x1) (L.qh h) (L.rowSc h)
def m (h : Fin 32) : FVec F S1x128 .f32 := shift (L.rowLse h) (L.s2 h)
def w (h : Fin 32) : FVec F S1x128 .f32 := wgt (L.rowLse h) (L.m h)
def p (h : Fin 32) : FVec F S512x128 .f32 := prob (L.s2 h) (L.m h)
def l (h : Fin 32) : FVec F S1x128 .f32 := norm (L.w h) (L.p h)
def pv (h : Fin 32) : FVec F S128x128 .f32 :=
  mix (L.p h) (shapeCast S512x1 (L.vs (Spec.kvOf h)) shapeCasts_S1x512x1_S512x1)
    (extf .bf16 (shapeCast S512x128 (L.v (Spec.kvOf h)) shapeCasts_S1x1x512x128_S512x128) bitsLt_fp8e4m3_bf16)
def out (h : Fin 32) : FVec F S1x128x1x128 .f32 := merged (L.o h) (cols (L.w h) (L.l h)) (L.pv h)
def lseOut (h : Fin 32) : FVec F S1x128 .f32 := mergedLse (L.m h) (L.l h)

/-- The thirty-two log-sum-exp rows, stacked and stood up. -/
def lseBlock : FVec F S1x128x32 .f32 :=
  k0_pay1 (transpose S128x32 [1, 0]
    (concatenate S32x128 0 (List.ofFn fun h : Fin 32 => ⟨S1x128, L.lseOut h⟩) concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0)
    transposes_S32x128_p1_0_S128x32)

end Loads

/-- The body's loads, off the blocks it is handed. -/
def loads (c : Dev nD) (i : grid0.Coords) (arg4 : Memref sig .tc .vmem S1x128x32x128 .bf16) (harg4 : arg4.IsWhole) (arg5 : Memref sig .tc .vmem S1x1x128 .i32) (harg5 : arg5.IsWhole) (arg6 : Memref sig .tc .vmem S1x512x1 .i32) (harg6 : arg6.IsWhole) (arg7 : Memref sig .tc .vmem S1x8x512x128 .fp8e4m3) (harg7 : arg7.IsWhole) (arg8 : Memref sig .tc .vmem S1x512x8 .f32) (harg8 : arg8.IsWhole) (arg9 : Memref sig .tc .vmem S1x8x512x128 .fp8e4m3) (harg9 : arg9.IsWhole) (arg10 : Memref sig .tc .vmem S1x512x8 .f32) (harg10 : arg10.IsWhole) (arg11 : Memref sig .tc .vmem S1x128x32x128 .f32) (harg11 : arg11.IsWhole) (arg12 : Memref sig .tc .vmem S1x128x32 .f32) (harg12 : arg12.IsWhole) (arg13 : Memref sig .tc .vmem S1x128x32x128 .f32) (harg13 : arg13.IsWhole) (arg14 : Memref sig .tc .vmem S1x128x32 .f32) (harg14 : arg14.IsWhole) (arg15 : Memref sig .tc .vmem S1x128x32x128 .fp8e4m3) (harg15 : arg15.IsWhole) (arg16 : Memref sig .tc .vmem S1x128x32 .f32) (harg16 : arg16.IsWhole) (arg17 : Memref sig .tc .vmem S128x32x128 .f32) (harg17 : arg17.IsWhole)
    (x0 : Vec F S1x128x32x128 .bf16) (x1 : Vec F S1x1x128 .i32) (x2 : Vec F S1x512x1 .i32) (x3 : Vec F S1x8x512x128 .fp8e4m3) (x4 : Vec F S1x512x8 .f32) (x5 : Vec F S1x8x512x128 .fp8e4m3) (x6 : Vec F S1x512x8 .f32) (x7 : Vec F S1x128x32x128 .f32) (x8 : Vec F S1x128x32 .f32) (xt0 : TbBuf0 (F := F) c tbM0_0) (xt1 : TbBuf0 (F := F) c tbM0_1) : Loads F where
  q := View.readAt (Elt F) arg4.view (Rect.unit (s := S1x128x32x128) ![0, 0, 0, 0] S1x128x32x128.size inb_S1x128x32x128_S1x128x32x128_0_0_0_0).toLoadRect (harg4.unread x0)
  qp := View.readAt (Elt F) arg5.view (Rect.unit (s := S1x1x128) ![0, 0, 0] S1x1x128.size inb_S1x1x128_S1x1x128_0_0_0).toLoadRect (harg5.unread x1)
  kp := View.readAt (Elt F) arg6.view (Rect.unit (s := S1x512x1) ![0, 0, 0] S1x512x1.size inb_S1x512x1_S1x512x1_0_0_0).toLoadRect (harg6.unread x2)
  k := fun n => View.readAt (Elt F) arg7.view (Rect.unit (s := S1x8x512x128) ![0, n.val, 0, 0] S1x1x512x128.size (inbK n)).toLoadRect (harg7.unread x3)
  ks := fun n => View.readAt (Elt F) arg8.view (Rect.unit (s := S1x512x8) ![0, 0, n.val] S1x512x1.size (inbS n)).toLoadRect (harg8.unread x4)
  v := fun n => View.readAt (Elt F) arg9.view (Rect.unit (s := S1x8x512x128) ![0, n.val, 0, 0] S1x1x512x128.size (inbK n)).toLoadRect (harg9.unread x5)
  vs := fun n => View.readAt (Elt F) arg10.view (Rect.unit (s := S1x512x8) ![0, 0, n.val] S1x512x1.size (inbS n)).toLoadRect (harg10.unread x6)
  o := fun h => View.readAt (Elt F) arg11.view (Rect.unit (s := S1x128x32x128) ![0, 0, h.val, 0] S1x128x1x128.size (inbO h)).toLoadRect (harg11.unread x7)
  lse := View.readAt (Elt F) arg12.view (Rect.unit (s := S1x128x32) ![0, 0, 0] S1x128x32.size inb_S1x128x32_S1x128x32_0_0_0).toLoadRect (harg12.unread x8)
  qh := fun h => arg17.view.readCov (kernelRun0_A.sl.HS0_1 c arg4 harg4 x0) (Rect.unit (s := S128x32x128) ![0, h.val, 0] S128x1x128.size (inbQ h)).toLoadRect

/-- The thirty-two pieces of the output block, the last head's on top. -/
theorem pieces_out (c : Dev nD) (i : grid0.Coords) (arg4 : Memref sig .tc .vmem S1x128x32x128 .bf16) (harg4 : arg4.IsWhole) (arg5 : Memref sig .tc .vmem S1x1x128 .i32) (harg5 : arg5.IsWhole) (arg6 : Memref sig .tc .vmem S1x512x1 .i32) (harg6 : arg6.IsWhole) (arg7 : Memref sig .tc .vmem S1x8x512x128 .fp8e4m3) (harg7 : arg7.IsWhole) (arg8 : Memref sig .tc .vmem S1x512x8 .f32) (harg8 : arg8.IsWhole) (arg9 : Memref sig .tc .vmem S1x8x512x128 .fp8e4m3) (harg9 : arg9.IsWhole) (arg10 : Memref sig .tc .vmem S1x512x8 .f32) (harg10 : arg10.IsWhole) (arg11 : Memref sig .tc .vmem S1x128x32x128 .f32) (harg11 : arg11.IsWhole) (arg12 : Memref sig .tc .vmem S1x128x32 .f32) (harg12 : arg12.IsWhole) (arg13 : Memref sig .tc .vmem S1x128x32x128 .f32) (harg13 : arg13.IsWhole) (arg14 : Memref sig .tc .vmem S1x128x32 .f32) (harg14 : arg14.IsWhole) (arg15 : Memref sig .tc .vmem S1x128x32x128 .fp8e4m3) (harg15 : arg15.IsWhole) (arg16 : Memref sig .tc .vmem S1x128x32 .f32) (harg16 : arg16.IsWhole) (arg17 : Memref sig .tc .vmem S128x32x128 .f32) (harg17 : arg17.IsWhole)
    (x0 : Vec F S1x128x32x128 .bf16) (x1 : Vec F S1x1x128 .i32) (x2 : Vec F S1x512x1 .i32) (x3 : Vec F S1x8x512x128 .fp8e4m3) (x4 : Vec F S1x512x8 .f32) (x5 : Vec F S1x8x512x128 .fp8e4m3) (x6 : Vec F S1x512x8 .f32) (x7 : Vec F S1x128x32x128 .f32) (x8 : Vec F S1x128x32 .f32) (xt0 : TbBuf0 (F := F) c tbM0_0) (xt1 : TbBuf0 (F := F) c tbM0_1) :
    (kernelRun0_A c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).1 = List.ofFn fun n : Fin 32 =>
      ⟨Rect.unit (s := S1x128x32x128) ![0, 0, n.rev.val, 0] S1x128x1x128.size (inbO n.rev),
        (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).out n.rev⟩ := by
  sl_kernel_rfl

/-- The log-sum-exp block is stored whole. -/
theorem pieces_lse (c : Dev nD) (i : grid0.Coords) (arg4 : Memref sig .tc .vmem S1x128x32x128 .bf16) (harg4 : arg4.IsWhole) (arg5 : Memref sig .tc .vmem S1x1x128 .i32) (harg5 : arg5.IsWhole) (arg6 : Memref sig .tc .vmem S1x512x1 .i32) (harg6 : arg6.IsWhole) (arg7 : Memref sig .tc .vmem S1x8x512x128 .fp8e4m3) (harg7 : arg7.IsWhole) (arg8 : Memref sig .tc .vmem S1x512x8 .f32) (harg8 : arg8.IsWhole) (arg9 : Memref sig .tc .vmem S1x8x512x128 .fp8e4m3) (harg9 : arg9.IsWhole) (arg10 : Memref sig .tc .vmem S1x512x8 .f32) (harg10 : arg10.IsWhole) (arg11 : Memref sig .tc .vmem S1x128x32x128 .f32) (harg11 : arg11.IsWhole) (arg12 : Memref sig .tc .vmem S1x128x32 .f32) (harg12 : arg12.IsWhole) (arg13 : Memref sig .tc .vmem S1x128x32x128 .f32) (harg13 : arg13.IsWhole) (arg14 : Memref sig .tc .vmem S1x128x32 .f32) (harg14 : arg14.IsWhole) (arg15 : Memref sig .tc .vmem S1x128x32x128 .fp8e4m3) (harg15 : arg15.IsWhole) (arg16 : Memref sig .tc .vmem S1x128x32 .f32) (harg16 : arg16.IsWhole) (arg17 : Memref sig .tc .vmem S128x32x128 .f32) (harg17 : arg17.IsWhole)
    (x0 : Vec F S1x128x32x128 .bf16) (x1 : Vec F S1x1x128 .i32) (x2 : Vec F S1x512x1 .i32) (x3 : Vec F S1x8x512x128 .fp8e4m3) (x4 : Vec F S1x512x8 .f32) (x5 : Vec F S1x8x512x128 .fp8e4m3) (x6 : Vec F S1x512x8 .f32) (x7 : Vec F S1x128x32x128 .f32) (x8 : Vec F S1x128x32 .f32) (xt0 : TbBuf0 (F := F) c tbM0_0) (xt1 : TbBuf0 (F := F) c tbM0_1) :
    (kernelRun0_A c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).2.1 = [⟨Rect.unit (s := S1x128x32) ![0, 0, 0] S1x128x32.size inb_S1x128x32_S1x128x32_0_0_0,
        (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).lseBlock⟩] := by
  sl_kernel_rfl

theorem pieces_codes (c : Dev nD) (i : grid0.Coords) (arg4 : Memref sig .tc .vmem S1x128x32x128 .bf16) (harg4 : arg4.IsWhole) (arg5 : Memref sig .tc .vmem S1x1x128 .i32) (harg5 : arg5.IsWhole) (arg6 : Memref sig .tc .vmem S1x512x1 .i32) (harg6 : arg6.IsWhole) (arg7 : Memref sig .tc .vmem S1x8x512x128 .fp8e4m3) (harg7 : arg7.IsWhole) (arg8 : Memref sig .tc .vmem S1x512x8 .f32) (harg8 : arg8.IsWhole) (arg9 : Memref sig .tc .vmem S1x8x512x128 .fp8e4m3) (harg9 : arg9.IsWhole) (arg10 : Memref sig .tc .vmem S1x512x8 .f32) (harg10 : arg10.IsWhole) (arg11 : Memref sig .tc .vmem S1x128x32x128 .f32) (harg11 : arg11.IsWhole) (arg12 : Memref sig .tc .vmem S1x128x32 .f32) (harg12 : arg12.IsWhole) (arg13 : Memref sig .tc .vmem S1x128x32x128 .f32) (harg13 : arg13.IsWhole) (arg14 : Memref sig .tc .vmem S1x128x32 .f32) (harg14 : arg14.IsWhole) (arg15 : Memref sig .tc .vmem S1x128x32x128 .fp8e4m3) (harg15 : arg15.IsWhole) (arg16 : Memref sig .tc .vmem S1x128x32 .f32) (harg16 : arg16.IsWhole) (arg17 : Memref sig .tc .vmem S128x32x128 .f32) (harg17 : arg17.IsWhole)
    (x0 : Vec F S1x128x32x128 .bf16) (x1 : Vec F S1x1x128 .i32) (x2 : Vec F S1x512x1 .i32) (x3 : Vec F S1x8x512x128 .fp8e4m3) (x4 : Vec F S1x512x8 .f32) (x5 : Vec F S1x8x512x128 .fp8e4m3) (x6 : Vec F S1x512x8 .f32) (x7 : Vec F S1x128x32x128 .f32) (x8 : Vec F S1x128x32 .f32) (xt0 : TbBuf0 (F := F) c tbM0_0) (xt1 : TbBuf0 (F := F) c tbM0_1) :
    (kernelRun0_A c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).2.2.1 = [⟨Rect.unit (s := S1x128x32x128) ![0, 0, 0, 0] S1x128x32x128.size inb_S1x128x32x128_S1x128x32x128_0_0_0_0,
        k0_pay5 (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).q⟩] := by
  sl_kernel_rfl

theorem pieces_scales (c : Dev nD) (i : grid0.Coords) (arg4 : Memref sig .tc .vmem S1x128x32x128 .bf16) (harg4 : arg4.IsWhole) (arg5 : Memref sig .tc .vmem S1x1x128 .i32) (harg5 : arg5.IsWhole) (arg6 : Memref sig .tc .vmem S1x512x1 .i32) (harg6 : arg6.IsWhole) (arg7 : Memref sig .tc .vmem S1x8x512x128 .fp8e4m3) (harg7 : arg7.IsWhole) (arg8 : Memref sig .tc .vmem S1x512x8 .f32) (harg8 : arg8.IsWhole) (arg9 : Memref sig .tc .vmem S1x8x512x128 .fp8e4m3) (harg9 : arg9.IsWhole) (arg10 : Memref sig .tc .vmem S1x512x8 .f32) (harg10 : arg10.IsWhole) (arg11 : Memref sig .tc .vmem S1x128x32x128 .f32) (harg11 : arg11.IsWhole) (arg12 : Memref sig .tc .vmem S1x128x32 .f32) (harg12 : arg12.IsWhole) (arg13 : Memref sig .tc .vmem S1x128x32x128 .f32) (harg13 : arg13.IsWhole) (arg14 : Memref sig .tc .vmem S1x128x32 .f32) (harg14 : arg14.IsWhole) (arg15 : Memref sig .tc .vmem S1x128x32x128 .fp8e4m3) (harg15 : arg15.IsWhole) (arg16 : Memref sig .tc .vmem S1x128x32 .f32) (harg16 : arg16.IsWhole) (arg17 : Memref sig .tc .vmem S128x32x128 .f32) (harg17 : arg17.IsWhole)
    (x0 : Vec F S1x128x32x128 .bf16) (x1 : Vec F S1x1x128 .i32) (x2 : Vec F S1x512x1 .i32) (x3 : Vec F S1x8x512x128 .fp8e4m3) (x4 : Vec F S1x512x8 .f32) (x5 : Vec F S1x8x512x128 .fp8e4m3) (x6 : Vec F S1x512x8 .f32) (x7 : Vec F S1x128x32x128 .f32) (x8 : Vec F S1x128x32 .f32) (xt0 : TbBuf0 (F := F) c tbM0_0) (xt1 : TbBuf0 (F := F) c tbM0_1) :
    (kernelRun0_A c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).2.2.2.1 = [⟨Rect.unit (s := S1x128x32) ![0, 0, 0] S1x128x32.size inb_S1x128x32_S1x128x32_0_0_0,
        k0_pay8 (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).q⟩] := by
  sl_kernel_rfl

end Cert.KernelIdeal.Head
-- ==== Proof.Read.lean ====
/-
One query of one head, read out of the kernel's vectors: each step of a head at an index, then the whole head as a
row of the specification.
-/
module

public import proofs.«01_k».proof.Proof.Head
public import proofs.«01_k».proof.Proof.Spec

@[expose] public section

set_option synthInstance.maxSize 4096
set_option maxRecDepth 16384

noncomputable section

namespace Cert.KernelIdeal.Head

open Idealize.ShloMosaic Idealize.SL.Sem
open Cert.KernelIdeal Cert.KernelIdeal.Gen

/-! ## The scale and the codes -/

section
variable {F : FTy → Type} [FloatOps F]

/-- The largest magnitude of each row of the query block. -/
def amax (x : Vec F S1x128x32x128 .bf16) : FVec F S128x32 .f32 :=
  multiReduction .maximumf [2] S128x32 (absf (k0_pay2 x)) 0xFF800000#32 reduces_S128x32x128_S128x32 (.inl rfl) rfl

theorem scales_at (x : Vec F S1x128x32x128 .bf16) (z : Fin 1) (r : Fin 128) (h : Fin 32) :
    k0_pay8 x (ix3 z r h) = Spec.scaleOf (amax x (ix2 r h)) := by
  pointwise! [k0_pay8, k0_pay7, k0_pay3, Spec.scaleOf, amax]

theorem scT_at (x : Vec F S1x128x32x128 .bf16) (r : Fin 128) (h : Fin 32) :
    k0_pay9 x (ix2 h r) = Spec.scaleOf (amax x (ix2 r h)) := by
  pointwise! [k0_pay9, k0_pay7, k0_pay3, Spec.scaleOf, amax]

theorem clip_at (x : Vec F S1x128x32x128 .bf16) (r : Fin 128) (h : Fin 32) (d : Fin 128) :
    k0_pay6 x (ix3 r h d)
      = Spec.clipOf (FloatOps.extf .f32 bitsLt_bf16_f32 (x (ix4 0 r h d))) (Spec.scaleOf (amax x (ix2 r h))) := by
  pointwise! [k0_pay6, k0_pay4, k0_pay3, k0_pay2, Spec.scaleOf, Spec.clipOf, amax]

theorem codes_at (x : Vec F S1x128x32x128 .bf16) (z : Fin 1) (r : Fin 128) (h : Fin 32) (d : Fin 128) :
    k0_pay5 x (ix4 z r h d)
      = FloatOps.truncf .fp8e4m3 bitsLt_fp8e4m3_f32
          (Spec.clipOf (FloatOps.extf .f32 bitsLt_bf16_f32 (x (ix4 0 r h d))) (Spec.scaleOf (amax x (ix2 r h)))) := by
  pointwise! [k0_pay5, k0_pay4, k0_pay3, k0_pay2, Spec.scaleOf, Spec.clipOf, amax]

end

theorem amax_at (x : Vec Ideal S1x128x32x128 .bf16) (r : Fin 128) (h : Fin 32) :
    amax x (ix2 r h) = Spec.top fun d => max (x (ix4 0 r h d)) (-x (ix4 0 r h d)) := by
  pointwise [amax, k0_pay2, Spec.top, Spec.bot]
  rfl

/-! ## The steps of a head -/

theorem s2_at (vis : IVec S512x128 1) (kk : FVec Ideal S512x128 .fp8e4m3) (ks : FVec Ideal S512x1 .f32)
    (qh : Vec Ideal S128x1x128 .f32) (scRow : FVec Ideal S1x128 .f32) (j : Fin 512) (r : Fin 128) :
    Head.s2 vis kk ks qh scRow (ix2 j r)
      = Scalar.select (vis (ix2 j r))
          ((∑ x, kk (ix2 j x) * qh (ix3 r 0 x)) * scRow (ix2 0 r) * ks (ix2 j 0) * Ideal.ofBits FTy.f32 1035273459#32 *
            Ideal.ofBits FTy.f32 1069066811#32) Spec.bot := by
  pointwise! [Head.s2, Spec.bot]

theorem shift_at (lse : FVec Ideal S1x128 .f32) (s : FVec Ideal S512x128 .f32) (z : Fin 1) (r : Fin 128) :
    shift lse s (ix2 z r) = Ideal.liftRound Int.ceil (max (lse (ix2 z r)) (Spec.top fun j => s (ix2 j r))) := by
  pointwise! [shift, Spec.top, Spec.bot]

theorem wgt_at (lse m : FVec Ideal S1x128 .f32) (z : Fin 1) (r : Fin 128) :
    wgt lse m (ix2 z r) = Ideal.exp2 (lse (ix2 z r) - m (ix2 z r)) := by
  pointwise! [wgt]

theorem prob_at (s : FVec Ideal S512x128 .f32) (m : FVec Ideal S1x128 .f32) (j : Fin 512) (r : Fin 128) :
    prob s m (ix2 j r) = Ideal.exp2 (s (ix2 j r) - m (ix2 0 r)) := by
  pointwise! [prob]

theorem norm_at (w : FVec Ideal S1x128 .f32) (p : FVec Ideal S512x128 .f32) (z : Fin 1) (r : Fin 128) :
    Head.norm w p (ix2 z r) = w (ix2 z r) + ∑ j, p (ix2 j r) := by
  pointwise! [Head.norm]

theorem mix_at (p : FVec Ideal S512x128 .f32) (vs : FVec Ideal S512x1 .f32) (vv : FVec Ideal S512x128 .bf16)
    (r d : Fin 128) : mix p vs vv (ix2 r d) = ∑ j, p (ix2 j r) * vs (ix2 j 0) * vv (ix2 j d) := by
  pointwise! [mix]

theorem merged_at (o : Vec Ideal S1x128x1x128 .f32) (w l : FVec Ideal S1x128 .f32) (pv : FVec Ideal S128x128 .f32)
    (z y : Fin 1) (r d : Fin 128) :
    merged o (cols w l) pv (ix4 z r y d)
      = Ideal.div (o (ix4 0 r 0 d) * w (ix2 0 r) + pv (ix2 r d)) (l (ix2 0 r)) := by
  pointwise! [merged, cols]

theorem mergedLse_at (m l : FVec Ideal S1x128 .f32) (z : Fin 1) (r : Fin 128) :
    mergedLse m l (ix2 z r)
      = m (ix2 z r) + Ideal.div (Ideal.log (l (ix2 z r))) (Ideal.ofBits FTy.f32 1060205080#32)
          - Ideal.ofBits FTy.f32 1091567616#32 := by
  pointwise! [mergedLse]

/-! ## A head as a row of the specification -/

namespace Loads

/-- The row a query of a head is, read off the loads. -/
def row (L : Loads Ideal) (h : Fin 32) (r : Fin 128) : Spec.Row where
  x d := L.q (ix4 0 r h d)
  k j d := L.k (Spec.kvOf h) (ix4 0 0 j d)
  ks j := L.ks (Spec.kvOf h) (ix3 0 j 0)
  v j d := L.v (Spec.kvOf h) (ix4 0 0 j d)
  vs j := L.vs (Spec.kvOf h) (ix3 0 j 0)
  vis j := IntOp.cmpi .sle (L.kp (ix3 0 j 0)) (L.qp (ix3 0 0 r))
  o d := L.o h (ix4 0 r 0 d)
  lse := L.lse (ix3 0 r h)

variable (L : Loads Ideal) (h : Fin 32) (r : Fin 128)

theorem scale_row : (L.row h r).scale = Spec.scaleOf (F := Ideal) (amax L.q (ix2 r h)) := by
  rw [amax_at]; rfl

theorem rowSc_at (z : Fin 1) : L.rowSc h (ix2 z r) = (L.row h r).scale := by
  rw [scale_row, ← scT_at]
  pointwise! [rowSc, scT]

theorem rowLse_at (z : Fin 1) : L.rowLse h (ix2 z r) = (L.row h r).lse := by
  pointwise! [rowLse, lseT, row]

theorem vis_at (j : Fin 512) : L.vis (ix2 j r) = (L.row h r).vis j := by
  pointwise! [vis, k0_pay12, row]

variable (hq : ∀ d, L.qh h (ix3 r 0 d) = (L.row h r).code d)

include hq

theorem s2_row (j : Fin 512) : L.s2 h (ix2 j r) = (L.row h r).s2 j := by
  rw [Loads.s2, s2_at, rowSc_at, vis_at L h r]
  simp only [hq]
  pointwise! [row, Spec.Row.s2]

theorem m_row (z : Fin 1) : L.m h (ix2 z r) = (L.row h r).m := by
  rw [Loads.m, shift_at, rowLse_at]
  simp only [s2_row L h r hq]
  rfl

theorem w_row (z : Fin 1) : L.w h (ix2 z r) = (L.row h r).w := by
  rw [Loads.w, wgt_at, rowLse_at, m_row L h r hq]; rfl

theorem p_row (j : Fin 512) : L.p h (ix2 j r) = (L.row h r).p j := by
  rw [Loads.p, prob_at, s2_row L h r hq, m_row L h r hq]; rfl

theorem l_row (z : Fin 1) : L.l h (ix2 z r) = (L.row h r).l := by
  rw [Loads.l, norm_at, w_row L h r hq]
  simp only [p_row L h r hq]
  rfl

theorem pv_row (d : Fin 128) : L.pv h (ix2 r d) = (L.row h r).pv d := by
  rw [Loads.pv, mix_at]
  simp only [p_row L h r hq]
  pointwise! [row, Spec.Row.pv]

theorem out_row (z y : Fin 1) (d : Fin 128) : L.out h (ix4 z r y d) = (L.row h r).out d := by
  rw [Loads.out, merged_at, w_row L h r hq, l_row L h r hq, pv_row L h r hq]; rfl

theorem lseOut_row (z : Fin 1) : L.lseOut h (ix2 z r) = (L.row h r).lseOut := by
  rw [Loads.lseOut, mergedLse_at, m_row L h r hq, l_row L h r hq]; rfl

end Loads

end Cert.KernelIdeal.Head
-- ==== Proof.Body.lean ====
/-
What the body leaves in its four output blocks, index by index, as rows of the specification read off the input
blocks.
-/
module

public import proofs.«01_k».proof.Proof.Read
public import Idealize.ShloMosaic.Lib.Pipeline.ValueKit.Tiles

@[expose] public section

set_option synthInstance.maxSize 4096
set_option maxRecDepth 16384

noncomputable section

namespace Cert.KernelIdeal.Head

open Idealize.ShloMosaic Idealize.SL.Sem
open Cert.KernelIdeal Cert.KernelIdeal.Gen

/-- The row of a query and head of a block. -/
def blockRow (x0 : Vec Ideal S1x128x32x128 .bf16) (x1 : Vec Ideal S1x1x128 .i32) (x2 : Vec Ideal S1x512x1 .i32)
    (x3 : Vec Ideal S1x8x512x128 .fp8e4m3) (x4 : Vec Ideal S1x512x8 .f32) (x5 : Vec Ideal S1x8x512x128 .fp8e4m3)
    (x6 : Vec Ideal S1x512x8 .f32) (x7 : Vec Ideal S1x128x32x128 .f32) (x8 : Vec Ideal S1x128x32 .f32)
    (h : Fin 32) (r : Fin 128) : Spec.Row where
  x d := x0 (ix4 0 r h d)
  k j d := x3 (ix4 0 (Spec.kvOf h) j d)
  ks j := x4 (ix3 0 j (Spec.kvOf h))
  v j d := x5 (ix4 0 (Spec.kvOf h) j d)
  vs j := x6 (ix3 0 j (Spec.kvOf h))
  vis j := IntOp.cmpi .sle (x2 (ix3 0 j 0)) (x1 (ix3 0 0 r))
  o d := x7 (ix4 0 r h d)
  lse := x8 (ix3 0 r h)

/-! ## Whole rectangles -/

section
variable {Val : EltTy → Type} {sig : RefSig} {κ : Kind} {sp : Space} {S : Shape} {e : EltTy}

/-- A load of the whole of a block's memory reads the block. -/
theorem readAt_whole {M : Memref sig κ sp S e} (hM : M.IsWhole) (X : S.Idx → Val e) {off : Fin S.rank → Nat}
    (h : off = fun _ => 0) (inb : ∀ a, off a + S.size a ≤ S.size a) :
    View.readAt Val M.view (Rect.unit off S.size inb).toLoadRect (hM.unread X) = X := by
  rw [View.readAt_eq_ld, hM.read_unread]
  exact View.ld_unit_zero h inb X

/-- A load after one store of the whole reads the stored vector. -/
theorem readCov_whole [∀ e, Nonempty (Val e)] (v : View sig κ sp S e) {off : Fin S.rank → Nat}
    (h : off = fun _ => 0) (inb : ∀ a, off a + S.size a ≤ S.size a) (w : S.Idx → Val e) (r : Rect S) :
    v.readCov [(⟨Rect.unit off S.size inb, w⟩ : View.Piece Val S e)] r.toLoadRect = View.ld w r := by
  subst h
  rw [View.readCov_eq_canon_ld _ _ _ (fun y => ⟨_, List.mem_singleton_self _, by
    show y ∈ (Rect.whole S).set; rw [Rect.set_whole]; exact Finset.mem_univ y⟩), View.canon_unit_zero rfl]

end

/-! ## Rectangles of a whole vector -/

section
variable {F : FTy → Type} [FloatOps F] {e : EltTy}

theorem ld_head (X : Vec F S1x128x32x128 e) (h : Fin 32) (r d : Fin 128) :
    View.ld X (Rect.unit (s := S1x128x32x128) ![0, 0, h.val, 0] S1x128x1x128.size (inbO h)) (ix4 0 r 0 d)
      = X (ix4 0 r h d) :=
  View.ld_unit_apply_of _ _ _ _ _ _ (by intro a; fin_cases a <;> first | rfl | exact (Nat.zero_add _).symm)

theorem ld_query (X : Vec F S128x32x128 e) (h : Fin 32) (r d : Fin 128) :
    View.ld X (Rect.unit (s := S128x32x128) ![0, h.val, 0] S128x1x128.size (inbQ h)) (ix3 r 0 d)
      = X (ix3 r h d) :=
  View.ld_unit_apply_of _ _ _ _ _ _ (by intro a; fin_cases a <;> first | rfl | exact (Nat.zero_add _).symm)

theorem ld_kv (X : Vec F S1x8x512x128 e) (k : Fin 8) (j : Fin 512) (d : Fin 128) :
    View.ld X (Rect.unit (s := S1x8x512x128) ![0, k.val, 0, 0] S1x1x512x128.size (inbK k)) (ix4 0 0 j d)
      = X (ix4 0 k j d) :=
  View.ld_unit_apply_of _ _ _ _ _ _ (by intro a; fin_cases a <;> first | rfl | exact (Nat.zero_add _).symm)

theorem ld_col (X : Vec F S1x512x8 e) (k : Fin 8) (j : Fin 512) :
    View.ld X (Rect.unit (s := S1x512x8) ![0, 0, k.val] S1x512x1.size (inbS k)) (ix3 0 j 0)
      = X (ix3 0 j k) :=
  View.ld_unit_apply_of _ _ _ _ _ _ (by intro a; fin_cases a <;> first | rfl | exact (Nat.zero_add _).symm)

/-- Where the rectangle of a head puts an index. -/
theorem emb_head (h : Fin 32) (z y : Fin 1) (r d : Fin 128) :
    (Rect.unit (s := S1x128x32x128) ![0, 0, h.val, 0] S1x128x1x128.size (inbO h)).emb (ix4 z r y d) = ix4 0 r h d := by
  refine funext fun a => Fin.ext ?_
  refine (Rect.idx_unit_val (s := S1x128x32x128) ![0, 0, h.val, 0] S1x128x1x128.size (inbO h) (ix4 z r y d) a).trans ?_
  obtain rfl : z = 0 := Subsingleton.elim _ _
  obtain rfl : y = 0 := Subsingleton.elim _ _
  fin_cases a <;> first | rfl | exact Nat.zero_add _

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

end

/-! ## The loads, off the input blocks -/

section
variable (c : Dev nD) (i : grid0.Coords) (arg4 : Memref sig .tc .vmem S1x128x32x128 .bf16) (harg4 : arg4.IsWhole) (arg5 : Memref sig .tc .vmem S1x1x128 .i32) (harg5 : arg5.IsWhole) (arg6 : Memref sig .tc .vmem S1x512x1 .i32) (harg6 : arg6.IsWhole) (arg7 : Memref sig .tc .vmem S1x8x512x128 .fp8e4m3) (harg7 : arg7.IsWhole) (arg8 : Memref sig .tc .vmem S1x512x8 .f32) (harg8 : arg8.IsWhole) (arg9 : Memref sig .tc .vmem S1x8x512x128 .fp8e4m3) (harg9 : arg9.IsWhole) (arg10 : Memref sig .tc .vmem S1x512x8 .f32) (harg10 : arg10.IsWhole) (arg11 : Memref sig .tc .vmem S1x128x32x128 .f32) (harg11 : arg11.IsWhole) (arg12 : Memref sig .tc .vmem S1x128x32 .f32) (harg12 : arg12.IsWhole) (arg13 : Memref sig .tc .vmem S1x128x32x128 .f32) (harg13 : arg13.IsWhole) (arg14 : Memref sig .tc .vmem S1x128x32 .f32) (harg14 : arg14.IsWhole) (arg15 : Memref sig .tc .vmem S1x128x32x128 .fp8e4m3) (harg15 : arg15.IsWhole) (arg16 : Memref sig .tc .vmem S1x128x32 .f32) (harg16 : arg16.IsWhole) (arg17 : Memref sig .tc .vmem S128x32x128 .f32) (harg17 : arg17.IsWhole)
    (x0 : Vec Ideal S1x128x32x128 .bf16) (x1 : Vec Ideal S1x1x128 .i32) (x2 : Vec Ideal S1x512x1 .i32) (x3 : Vec Ideal S1x8x512x128 .fp8e4m3) (x4 : Vec Ideal S1x512x8 .f32) (x5 : Vec Ideal S1x8x512x128 .fp8e4m3) (x6 : Vec Ideal S1x512x8 .f32) (x7 : Vec Ideal S1x128x32x128 .f32) (x8 : Vec Ideal S1x128x32 .f32) (xt0 : TbBuf0 (F := Ideal) c tbM0_0) (xt1 : TbBuf0 (F := Ideal) c tbM0_1)

theorem loads_q : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).q = x0 :=
  readAt_whole harg4 x0 zero4 _

theorem loads_qp : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).qp = x1 :=
  readAt_whole harg5 x1 zero3 _

theorem loads_kp : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).kp = x2 :=
  readAt_whole harg6 x2 zero3 _

theorem loads_lse : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).lse = x8 :=
  readAt_whole harg12 x8 zero3 _

theorem loads_k (k : Fin 8) (j : Fin 512) (d : Fin 128) : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).k k (ix4 0 0 j d) = x3 (ix4 0 k j d) := by
  show View.ld (arg7.view.read (Elt Ideal) (harg7.unread x3)) _ _ = _
  rw [harg7.read_unread]
  exact ld_kv (F := Ideal) x3 k j d

theorem loads_ks (k : Fin 8) (j : Fin 512) : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).ks k (ix3 0 j 0) = x4 (ix3 0 j k) := by
  show View.ld (arg8.view.read (Elt Ideal) (harg8.unread x4)) _ _ = _
  rw [harg8.read_unread]
  exact ld_col (F := Ideal) x4 k j

theorem loads_v (k : Fin 8) (j : Fin 512) (d : Fin 128) : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).v k (ix4 0 0 j d) = x5 (ix4 0 k j d) := by
  show View.ld (arg9.view.read (Elt Ideal) (harg9.unread x5)) _ _ = _
  rw [harg9.read_unread]
  exact ld_kv (F := Ideal) x5 k j d

theorem loads_vs (k : Fin 8) (j : Fin 512) : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).vs k (ix3 0 j 0) = x6 (ix3 0 j k) := by
  show View.ld (arg10.view.read (Elt Ideal) (harg10.unread x6)) _ _ = _
  rw [harg10.read_unread]
  exact ld_col (F := Ideal) x6 k j

theorem loads_o (h : Fin 32) (r d : Fin 128) : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).o h (ix4 0 r 0 d) = x7 (ix4 0 r h d) := by
  show View.ld (arg11.view.read (Elt Ideal) (harg11.unread x7)) _ _ = _
  rw [harg11.read_unread]
  exact ld_head (F := Ideal) x7 h r d

theorem loads_row (h : Fin 32) (r : Fin 128) : (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).row h r = blockRow x0 x1 x2 x3 x4 x5 x6 x7 x8 h r := by
  simp only [Loads.row, blockRow, loads_q, loads_qp, loads_kp, loads_lse, loads_k, loads_ks, loads_v, loads_vs, loads_o]

/-- The scratch holds the clipped quotients of the block. -/
theorem scratch :
    kernelRun0_A.sl.HS0_1 c arg4 harg4 x0
      = [⟨Rect.unit (s := S128x32x128) ![0, 0, 0] S128x32x128.size inb_S128x32x128_S128x32x128_0_0_0,
          k0_pay6 (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).q⟩] := by
  sl_kernel_rfl

theorem loads_qh (h : Fin 32) (r d : Fin 128) :
    (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).qh h (ix3 r 0 d) = ((loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).row h r).code d := by
  show arg17.view.readCov (kernelRun0_A.sl.HS0_1 c arg4 harg4 x0) _ _ = _
  rw [scratch c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1, readCov_whole _ zero3]
  refine (ld_query (F := Ideal) _ h r d).trans ?_
  rw [clip_at, ← Loads.scale_row]
  rfl

/-! ## The output blocks -/

theorem out_piece (n : Fin 32) (x : S1x128x1x128.Idx) (z y : Fin 1) (r d : Fin 128) (hx : x = ix4 z r y d) :
    (loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1).out n x
      = (fun y : S1x128x32x128.Idx => (blockRow x0 x1 x2 x3 x4 x5 x6 x7 x8 (y 2) (y 1)).out (y 3))
          ((Rect.unit (s := S1x128x32x128) ![0, 0, n.val, 0] S1x128x1x128.size (inbO n)).emb x) := by
  subst hx
  rw [emb_head, Loads.out_row _ n r (loads_qh c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1 n r), loads_row c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1]
  rfl

theorem out_block (z : Fin 1) (r : Fin 128) (h : Fin 32) (d : Fin 128) :
    out0_A_9 c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1 (ix4 z r h d) = (blockRow x0 x1 x2 x3 x4 x5 x6 x7 x8 h r).out d := by
  unfold out0_A_9
  rw [View.read_writes_eq_canon _ _ _ (cover0_A_9 c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1)]
  refine (View.canon_apply_of_pieces
    (fun y : S1x128x32x128.Idx => (blockRow x0 x1 x2 x3 x4 x5 x6 x7 x8 (y 2) (y 1)).out (y 3)) _ ?_ _
    (cover0_A_9 c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1 _)).trans rfl
  rw [pieces_out c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1]
  intro p hp x
  obtain ⟨n, rfl⟩ := List.mem_ofFn.1 hp
  exact out_piece c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1 n.rev x _ _ _ _ (eq_ix4 x)

theorem lse_block (z : Fin 1) (r : Fin 128) (h : Fin 32) :
    out0_A_10 c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1 (ix3 z r h) = (blockRow x0 x1 x2 x3 x4 x5 x6 x7 x8 h r).lseOut := by
  unfold out0_A_10
  rw [View.read_writes_eq_canon _ _ _ (cover0_A_10 c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1), pieces_lse c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1,
    View.canon_unit_zero (S := S1x128x32) zero3, ← loads_row c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1, ← Loads.lseOut_row _ _ _ (loads_qh c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1 h r) 0]
  generalize loads c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1 = L
  unfold Loads.lseBlock
  pointwise [k0_pay1]

theorem codes_block (z : Fin 1) (r : Fin 128) (h : Fin 32) (d : Fin 128) :
    out0_A_11 c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1 (ix4 z r h d) = (blockRow x0 x1 x2 x3 x4 x5 x6 x7 x8 h r).code d := by
  unfold out0_A_11
  rw [View.read_writes_eq_canon _ _ _ (cover0_A_11 c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1), pieces_codes c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1,
    View.canon_unit_zero (S := S1x128x32x128) zero4, codes_at, ← Loads.scale_row, ← loads_row c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1]
  rfl

theorem scales_block (z : Fin 1) (r : Fin 128) (h : Fin 32) :
    out0_A_12 c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1 (ix3 z r h) = (blockRow x0 x1 x2 x3 x4 x5 x6 x7 x8 h r).scale := by
  unfold out0_A_12
  rw [View.read_writes_eq_canon _ _ _ (cover0_A_12 c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1), pieces_scales c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1,
    View.canon_unit_zero (S := S1x128x32) zero3, scales_at, ← Loads.scale_row, ← loads_row c i arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 xt0 xt1]

end

end Cert.KernelIdeal.Head
-- ==== Proof.Place.lean ====
/- Where the blocks of the kernel sit: grid point `t` of the twelve works on batch `t / 4` and on the 128 query rows
   from `128 * (t % 4)`; each input block read at coordinates is its argument array read at the matching place. -/
module

public import proofs.«01_k».proof.Proof.Body
public import Idealize.ShloMosaic.Lib.Pipeline.ValueKit
public import Idealize.ShloMosaic.Lib.Pointwise

@[expose] public section

set_option maxRecDepth 16384

noncomputable section

namespace Cert.KernelIdeal.Place

open Cert.KernelIdeal Cert.KernelIdeal.Gen Cert.KernelIdeal.Head Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (hO : Ok m) (c : Dev nD)

theorem N_eq : grid0.N = 12 := by decide +kernel

/-- The batch of grid point `t`. -/
def batch (t : Fin grid0.N) : Fin 3 := ⟨t.val / 4, by have : t.val < 12 := t.isLt.trans_eq N_eq; omega⟩

/-- The query row of the whole array that row `r` of grid point `t`'s block is. -/
def row (t : Fin grid0.N) (r : Fin 128) : Fin 512 := ⟨t.val % 4 * 128 + r.val, by have := r.isLt; omega⟩

/-- Blocks of query rows: batch and tile of the point. -/
theorem idx0 : ∀ t : Fin grid0.N, cc0_transform_0 (grid0.coords t) = ![t.val / 4, t.val % 4, 0, 0] := by decide +kernel
theorem idx1 : ∀ t : Fin grid0.N, cc0_transform_1 (grid0.coords t) = ![t.val / 4, 0, t.val % 4] := by decide +kernel
theorem idx2 : ∀ t : Fin grid0.N, cc0_transform_2 (grid0.coords t) = ![t.val / 4, 0, 0] := by decide +kernel
theorem idx3 : ∀ t : Fin grid0.N, cc0_transform_3 (grid0.coords t) = ![t.val / 4, 0, 0, 0] := by decide +kernel
theorem idx8 : ∀ t : Fin grid0.N, cc0_transform_8 (grid0.coords t) = ![t.val / 4, t.val % 4, 0] := by decide +kernel

/-! ## Coordinates: block index times block size plus the coordinate inside the block -/

theorem place4 (t : Fin grid0.N) (z : Fin 1) (r : Fin 128) (h : Fin 32) (d : Fin 128) (a : Fin 4) :
    cc0_transform_0 (grid0.coords t) a * S1x128x32x128.size a + (ix4 z r h d a).val = (ix4 (batch t) (row t r) h d a).val := by
  rw [idx0]
  fin_cases a <;> simp [batch, row] <;> omega

theorem place3 (t : Fin grid0.N) (z : Fin 1) (r : Fin 128) (h : Fin 32) (a : Fin 3) :
    cc0_transform_8 (grid0.coords t) a * S1x128x32.size a + (ix3 z r h a).val = (ix3 (batch t) (row t r) h a).val := by
  rw [idx8]
  fin_cases a <;> simp [batch, row] <;> omega

theorem placeQ (t : Fin grid0.N) (z y : Fin 1) (r : Fin 128) (a : Fin 3) :
    cc0_transform_1 (grid0.coords t) a * S1x1x128.size a + (ix3 z y r a).val = (ix3 (batch t) y (row t r) a).val := by
  rw [idx1]
  fin_cases a <;> simp [batch, row] <;> omega

theorem placeP (t : Fin grid0.N) (z y : Fin 1) (j : Fin 512) (a : Fin 3) :
    cc0_transform_2 (grid0.coords t) a * S1x512x1.size a + (ix3 z j y a).val = (ix3 (batch t) j y a).val := by
  rw [idx2]
  fin_cases a <;> simp [batch] <;> omega

theorem placeK (t : Fin grid0.N) (z : Fin 1) (k : Fin 8) (j : Fin 512) (d : Fin 128) (a : Fin 4) :
    cc0_transform_3 (grid0.coords t) a * S1x8x512x128.size a + (ix4 z k j d a).val = (ix4 (batch t) k j d a).val := by
  rw [idx3]
  fin_cases a <;> simp [batch] <;> omega

theorem placeS (t : Fin grid0.N) (z : Fin 1) (j : Fin 512) (k : Fin 8) (a : Fin 3) :
    cc0_transform_2 (grid0.coords t) a * S1x512x8.size a + (ix3 z j k a).val = (ix3 (batch t) j k a).val := by
  rw [idx2]
  fin_cases a <;> simp [batch] <;> omega

/-! ## Where each window's block sits in its array -/

theorem emb0 (t : Fin grid0.N) (z : Fin 1) (r : Fin 128) (h : Fin 32) (d : Fin 128) :
    (((cfgM m hO).win 0).blk t).view.emb (ix4 z r h d) = ix4 (batch t) (row t r) h d :=
  funext fun a => Fin.ext ((((cfgM m hO).win 0).rect_emb_val t (ix4 z r h d) a).trans (place4 t z r h d a))

theorem emb1 (t : Fin grid0.N) (z y : Fin 1) (r : Fin 128) :
    (((cfgM m hO).win 1).blk t).view.emb (ix3 z y r) = ix3 (batch t) y (row t r) :=
  funext fun a => Fin.ext ((((cfgM m hO).win 1).rect_emb_val t (ix3 z y r) a).trans (placeQ t z y r a))

theorem emb2 (t : Fin grid0.N) (z y : Fin 1) (j : Fin 512) :
    (((cfgM m hO).win 2).blk t).view.emb (ix3 z j y) = ix3 (batch t) j y :=
  funext fun a => Fin.ext ((((cfgM m hO).win 2).rect_emb_val t (ix3 z j y) a).trans (placeP t z y j a))

theorem emb3 (t : Fin grid0.N) (z : Fin 1) (k : Fin 8) (j : Fin 512) (d : Fin 128) :
    (((cfgM m hO).win 3).blk t).view.emb (ix4 z k j d) = ix4 (batch t) k j d :=
  funext fun a => Fin.ext ((((cfgM m hO).win 3).rect_emb_val t (ix4 z k j d) a).trans (placeK t z k j d a))

theorem emb4 (t : Fin grid0.N) (z : Fin 1) (j : Fin 512) (k : Fin 8) :
    (((cfgM m hO).win 4).blk t).view.emb (ix3 z j k) = ix3 (batch t) j k :=
  funext fun a => Fin.ext ((((cfgM m hO).win 4).rect_emb_val t (ix3 z j k) a).trans (placeS t z j k a))

theorem emb5 (t : Fin grid0.N) (z : Fin 1) (k : Fin 8) (j : Fin 512) (d : Fin 128) :
    (((cfgM m hO).win 5).blk t).view.emb (ix4 z k j d) = ix4 (batch t) k j d :=
  funext fun a => Fin.ext ((((cfgM m hO).win 5).rect_emb_val t (ix4 z k j d) a).trans (placeK t z k j d a))

theorem emb6 (t : Fin grid0.N) (z : Fin 1) (j : Fin 512) (k : Fin 8) :
    (((cfgM m hO).win 6).blk t).view.emb (ix3 z j k) = ix3 (batch t) j k :=
  funext fun a => Fin.ext ((((cfgM m hO).win 6).rect_emb_val t (ix3 z j k) a).trans (placeS t z j k a))

theorem emb7 (t : Fin grid0.N) (z : Fin 1) (r : Fin 128) (h : Fin 32) (d : Fin 128) :
    (((cfgM m hO).win 7).blk t).view.emb (ix4 z r h d) = ix4 (batch t) (row t r) h d :=
  funext fun a => Fin.ext ((((cfgM m hO).win 7).rect_emb_val t (ix4 z r h d) a).trans (place4 t z r h d a))

theorem emb8 (t : Fin grid0.N) (z : Fin 1) (r : Fin 128) (h : Fin 32) :
    (((cfgM m hO).win 8).blk t).view.emb (ix3 z r h) = ix3 (batch t) (row t r) h :=
  funext fun a => Fin.ext ((((cfgM m hO).win 8).rect_emb_val t (ix3 z r h) a).trans (place3 t z r h a))

theorem emb9 (t : Fin grid0.N) (z : Fin 1) (r : Fin 128) (h : Fin 32) (d : Fin 128) :
    (((cfgM m hO).win 9).blk t).view.emb (ix4 z r h d) = ix4 (batch t) (row t r) h d :=
  funext fun a => Fin.ext ((((cfgM m hO).win 9).rect_emb_val t (ix4 z r h d) a).trans (place4 t z r h d a))

theorem emb10 (t : Fin grid0.N) (z : Fin 1) (r : Fin 128) (h : Fin 32) :
    (((cfgM m hO).win 10).blk t).view.emb (ix3 z r h) = ix3 (batch t) (row t r) h :=
  funext fun a => Fin.ext ((((cfgM m hO).win 10).rect_emb_val t (ix3 z r h) a).trans (place3 t z r h a))

theorem emb11 (t : Fin grid0.N) (z : Fin 1) (r : Fin 128) (h : Fin 32) (d : Fin 128) :
    (((cfgM m hO).win 11).blk t).view.emb (ix4 z r h d) = ix4 (batch t) (row t r) h d :=
  funext fun a => Fin.ext ((((cfgM m hO).win 11).rect_emb_val t (ix4 z r h d) a).trans (place4 t z r h d a))

theorem emb12 (t : Fin grid0.N) (z : Fin 1) (r : Fin 128) (h : Fin 32) :
    (((cfgM m hO).win 12).blk t).view.emb (ix3 z r h) = ix3 (batch t) (row t r) h :=
  funext fun a => Fin.ext ((((cfgM m hO).win 12).rect_emb_val t (ix3 z r h) a).trans (place3 t z r h a))

/-! ## The host's arrays before the call -/

theorem V_kt (b : Fin 3) (k : Fin 8) (j : Fin 512) (d : Fin 128) :
    V m c main_v0 (ix4 b k j d) = m ((c : Thread nD τ).loc main_arg3) (ix4 b j k d) := by
  entry_read
  pointwise

theorem V_vt (b : Fin 3) (k : Fin 8) (j : Fin 512) (d : Fin 128) :
    V m c main_v1 (ix4 b k j d) = m ((c : Thread nD τ).loc main_arg5) (ix4 b j k d) := by
  entry_read
  pointwise

theorem V_qPos (b : Fin 3) (y : Fin 1) (i : Fin 512) :
    V m c main_v2 (ix3 b y i) = m ((c : Thread nD τ).loc main_arg1) (ix2 b i) := by
  entry_read
  pointwise

theorem V_kvPos (b : Fin 3) (y : Fin 1) (j : Fin 512) :
    V m c main_v3 (ix3 b j y) = m ((c : Thread nD τ).loc main_arg2) (ix2 b j) := by
  entry_read
  pointwise

/-! ## The input blocks at coordinates -/

theorem iblk0 (t : Fin grid0.N) (z : Fin 1) (r : Fin 128) (h : Fin 32) (d : Fin 128) :
    iblk m hO c 0 t (ix4 z r h d) = m ((c : Thread nD τ).loc main_arg0) (ix4 (batch t) (row t r) h d) :=
  (congrArg (V m c main_arg0) (emb0 m hO t z r h d)).trans (congrFun (V_main_arg0 m c) _)

theorem iblk1 (t : Fin grid0.N) (z y : Fin 1) (r : Fin 128) :
    iblk m hO c 1 t (ix3 z y r) = m ((c : Thread nD τ).loc main_arg1) (ix2 (batch t) (row t r)) :=
  (congrArg (V m c main_v2) (emb1 m hO t z y r)).trans (V_qPos m c _ _ _)

theorem iblk2 (t : Fin grid0.N) (z y : Fin 1) (j : Fin 512) :
    iblk m hO c 2 t (ix3 z j y) = m ((c : Thread nD τ).loc main_arg2) (ix2 (batch t) j) :=
  (congrArg (V m c main_v3) (emb2 m hO t z y j)).trans (V_kvPos m c _ _ _)

theorem iblk3 (t : Fin grid0.N) (z : Fin 1) (k : Fin 8) (j : Fin 512) (d : Fin 128) :
    iblk m hO c 3 t (ix4 z k j d) = m ((c : Thread nD τ).loc main_arg3) (ix4 (batch t) j k d) :=
  (congrArg (V m c main_v0) (emb3 m hO t z k j d)).trans (V_kt m c _ _ _ _)

theorem iblk4 (t : Fin grid0.N) (z : Fin 1) (j : Fin 512) (k : Fin 8) :
    iblk m hO c 4 t (ix3 z j k) = m ((c : Thread nD τ).loc main_arg4) (ix3 (batch t) j k) :=
  (congrArg (V m c main_arg4) (emb4 m hO t z j k)).trans (congrFun (V_main_arg4 m c) _)

theorem iblk5 (t : Fin grid0.N) (z : Fin 1) (k : Fin 8) (j : Fin 512) (d : Fin 128) :
    iblk m hO c 5 t (ix4 z k j d) = m ((c : Thread nD τ).loc main_arg5) (ix4 (batch t) j k d) :=
  (congrArg (V m c main_v1) (emb5 m hO t z k j d)).trans (V_vt m c _ _ _ _)

theorem iblk6 (t : Fin grid0.N) (z : Fin 1) (j : Fin 512) (k : Fin 8) :
    iblk m hO c 6 t (ix3 z j k) = m ((c : Thread nD τ).loc main_arg6) (ix3 (batch t) j k) :=
  (congrArg (V m c main_arg6) (emb6 m hO t z j k)).trans (congrFun (V_main_arg6 m c) _)

theorem iblk7 (t : Fin grid0.N) (z : Fin 1) (r : Fin 128) (h : Fin 32) (d : Fin 128) :
    iblk m hO c 7 t (ix4 z r h d) = m ((c : Thread nD τ).loc main_arg7) (ix4 (batch t) (row t r) h d) :=
  (congrArg (V m c main_arg7) (emb7 m hO t z r h d)).trans (congrFun (V_main_arg7 m c) _)

theorem iblk8 (t : Fin grid0.N) (z : Fin 1) (r : Fin 128) (h : Fin 32) :
    iblk m hO c 8 t (ix3 z r h) = m ((c : Thread nD τ).loc main_arg8) (ix3 (batch t) (row t r) h) :=
  (congrArg (V m c main_arg8) (emb8 m hO t z r h)).trans (congrFun (V_main_arg8 m c) _)

end Cert.KernelIdeal.Place
-- ==== Proof.Arrays.lean ====
/- What the kernel's four result arrays hold after the run: at each index, the row of the specification that the
   arguments give there; and the run with the result arrays so named. -/
module

public import proofs.«01_k».proof.Proof.Place
public import Idealize.ShloMosaic.Lib.Pipeline.Value

@[expose] public section

set_option maxRecDepth 16384

noncomputable section

namespace Cert.KernelIdeal.Arrays

open Cert.KernelIdeal Cert.KernelIdeal.Gen Cert.KernelIdeal.Head Cert.KernelIdeal.Place Idealize.ShloMosaic Idealize.ShloMosaic.TcCoe Idealize.SL.Sem
open Idealize.ShloMosaic.Pipeline (Dat)

variable (m : (ℓ : Loc nD τ sig) → Buf (Elt Ideal) ℓ) (ρ : Dev nD → PrngReg) (hO : Ok m) (c : Dev nD)

/-- The row of batch `b`, query `i` and head `h` of the launched arguments. -/
def argRow (b : Fin 3) (i : Fin 512) (h : Fin 32) : Spec.Row :=
  Spec.rowAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b i h

/-- The merged output. -/
def OUT : S3x512x32x128.Idx → EReal := fun y => (argRow m c (y 0) (y 1) (y 2)).out (y 3)
/-- The merged log-sum-exp. -/
def LSE : S3x512x32.Idx → EReal := fun y => (argRow m c (y 0) (y 1) (y 2)).lseOut
/-- The codes of the queries. -/
def CODES : S3x512x32x128.Idx → EReal := fun y => (argRow m c (y 0) (y 1) (y 2)).code (y 3)
/-- The scales of the queries. -/
def SCALES : S3x512x32.Idx → EReal := fun y => (argRow m c (y 0) (y 1) (y 2)).scale

/-- A row of the blocks of point `t` is the row of the arguments at the point's batch and query. -/
theorem block_row (t : Fin grid0.N) (h : Fin 32) (r : Fin 128) :
    blockRow (iblk m hO c 0 t) (iblk m hO c 1 t) (iblk m hO c 2 t) (iblk m hO c 3 t) (iblk m hO c 4 t) (iblk m hO c 5 t)
      (iblk m hO c 6 t) (iblk m hO c 7 t) (iblk m hO c 8 t) h r = argRow m c (batch t) (row t r) h := by
  unfold blockRow argRow Spec.rowAt
  simp only [iblk0, iblk1, iblk2, iblk3, iblk4, iblk5, iblk6, iblk7, iblk8]

/-! ## What a point leaves in each output block -/

section
variable {α β γ δ : Type} {p : α × β × γ × δ} {x : α} {y : β} {z : γ} {w : δ}
theorem comp0 (h : p = (x, y, z, w)) : p.1 = x := by rw [h]
theorem comp1 (h : p = (x, y, z, w)) : p.2.1 = y := by rw [h]
theorem comp2 (h : p = (x, y, z, w)) : p.2.2.1 = z := by rw [h]
theorem comp3 (h : p = (x, y, z, w)) : p.2.2.2 = w := by rw [h]
end

theorem left9 (t : Fin grid0.N) (z : Fin 1) (r : Fin 128) (h : Fin 32) (d : Fin 128) :
    (outsAt0 m hO c t).1 (ix4 z r h d) = (argRow m c (batch t) (row t r) h).out d :=
  (congrFun (comp0 (outsAt0.eq_1 m hO c t)) (ix4 z r h d)).trans
    ((out_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) z r h d).trans
      (by rw [block_row]))

theorem left10 (t : Fin grid0.N) (z : Fin 1) (r : Fin 128) (h : Fin 32) :
    (outsAt0 m hO c t).2.1 (ix3 z r h) = (argRow m c (batch t) (row t r) h).lseOut :=
  (congrFun (comp1 (outsAt0.eq_1 m hO c t)) (ix3 z r h)).trans
    ((lse_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) z r h).trans
      (by rw [block_row]))

theorem left11 (t : Fin grid0.N) (z : Fin 1) (r : Fin 128) (h : Fin 32) (d : Fin 128) :
    (outsAt0 m hO c t).2.2.1 (ix4 z r h d) = (argRow m c (batch t) (row t r) h).code d :=
  (congrFun (comp2 (outsAt0.eq_1 m hO c t)) (ix4 z r h d)).trans
    ((codes_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) z r h d).trans
      (by rw [block_row]))

theorem left12 (t : Fin grid0.N) (z : Fin 1) (r : Fin 128) (h : Fin 32) :
    (outsAt0 m hO c t).2.2.2 (ix3 z r h) = (argRow m c (batch t) (row t r) h).scale :=
  (congrFun (comp3 (outsAt0.eq_1 m hO c t)) (ix3 z r h)).trans
    ((scales_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) z r h).trans
      (by rw [block_row]))

/-! ## Every index is in a block -/

/-- The point that writes query row `i` of batch `b`. -/
def pt (b : Fin 3) (i : Fin 512) : Fin grid0.N :=
  ⟨b.val * 4 + i.val / 128, by have hb := b.isLt; have hi := i.isLt; rw [N_eq]; omega⟩
/-- Its row inside the block. -/
def rowIn (i : Fin 512) : Fin 128 := ⟨i.val % 128, by omega⟩

theorem batch_pt (b : Fin 3) (i : Fin 512) : batch (pt b i) = b := by
  apply Fin.ext; simp only [batch, pt]; have hi := i.isLt; omega
theorem row_pt (b : Fin 3) (i : Fin 512) : row (pt b i) (rowIn i) = i := by
  apply Fin.ext; simp only [row, pt, rowIn]; have hi := i.isLt; omega

theorem cover9 (i : S3x512x32x128.Idx) : ∃ t : Fin grid0.N, i ∈ (((cfgM m hO).win 9).blk t).view.set := by
  obtain ⟨b, q, h, d, rfl⟩ : ∃ b q h d, i = ix4 b q h d := ⟨_, _, _, _, eq_ix4 i⟩
  have e := emb9 m hO (pt b q) 0 (rowIn q) h d
  rw [batch_pt, row_pt] at e
  exact ⟨pt b q, e ▸ View.emb_mem_set _ _⟩

theorem point9 (t : Fin grid0.N) (y : S1x128x32x128.Idx) :
    (outsAt0 m hO c t).1 y = OUT m c ((((cfgM m hO).win 9).blk t).view.emb y) := by
  obtain ⟨z, r, h, d, rfl⟩ : ∃ z r h d, y = ix4 z r h d := ⟨_, _, _, _, eq_ix4 y⟩
  exact (left9 m hO c t z r h d).trans (congrArg (OUT m c) (emb9 m hO t z r h d)).symm

theorem final9 : (dats m hO 0 c).arrAt 9 (cfgM m hO).N = OUT m c := by
  refine (dats m hO 0 c).arrAt_eq_of_emb 9 _ (fun t _ y => ?_) fun i => (cover9 m hO i).imp fun t ht => ⟨flush0_9 (adm m hO) t, ht⟩
  rw [after0_9]
  exact point9 m hO c t y

theorem cover10 (i : S3x512x32.Idx) : ∃ t : Fin grid0.N, i ∈ (((cfgM m hO).win 10).blk t).view.set := by
  obtain ⟨b, q, h, rfl⟩ : ∃ b q h, i = ix3 b q h := ⟨_, _, _, eq_ix3 i⟩
  have e := emb10 m hO (pt b q) 0 (rowIn q) h
  rw [batch_pt, row_pt] at e
  exact ⟨pt b q, e ▸ View.emb_mem_set _ _⟩

theorem point10 (t : Fin grid0.N) (y : S1x128x32.Idx) :
    (outsAt0 m hO c t).2.1 y = LSE m c ((((cfgM m hO).win 10).blk t).view.emb y) := by
  obtain ⟨z, r, h, rfl⟩ : ∃ z r h, y = ix3 z r h := ⟨_, _, _, eq_ix3 y⟩
  exact (left10 m hO c t z r h).trans (congrArg (LSE m c) (emb10 m hO t z r h)).symm

theorem final10 : (dats m hO 0 c).arrAt 10 (cfgM m hO).N = LSE m c := by
  refine (dats m hO 0 c).arrAt_eq_of_emb 10 _ (fun t _ y => ?_) fun i => (cover10 m hO i).imp fun t ht => ⟨flush0_10 (adm m hO) t, ht⟩
  rw [after0_10]
  exact point10 m hO c t y

theorem cover11 (i : S3x512x32x128.Idx) : ∃ t : Fin grid0.N, i ∈ (((cfgM m hO).win 11).blk t).view.set := by
  obtain ⟨b, q, h, d, rfl⟩ : ∃ b q h d, i = ix4 b q h d := ⟨_, _, _, _, eq_ix4 i⟩
  have e := emb11 m hO (pt b q) 0 (rowIn q) h d
  rw [batch_pt, row_pt] at e
  exact ⟨pt b q, e ▸ View.emb_mem_set _ _⟩

theorem point11 (t : Fin grid0.N) (y : S1x128x32x128.Idx) :
    (outsAt0 m hO c t).2.2.1 y = CODES m c ((((cfgM m hO).win 11).blk t).view.emb y) := by
  obtain ⟨z, r, h, d, rfl⟩ : ∃ z r h d, y = ix4 z r h d := ⟨_, _, _, _, eq_ix4 y⟩
  exact (left11 m hO c t z r h d).trans (congrArg (CODES m c) (emb11 m hO t z r h d)).symm

theorem final11 : (dats m hO 0 c).arrAt 11 (cfgM m hO).N = CODES m c := by
  refine (dats m hO 0 c).arrAt_eq_of_emb 11 _ (fun t _ y => ?_) fun i => (cover11 m hO i).imp fun t ht => ⟨flush0_11 (adm m hO) t, ht⟩
  rw [after0_11]
  exact point11 m hO c t y

theorem cover12 (i : S3x512x32.Idx) : ∃ t : Fin grid0.N, i ∈ (((cfgM m hO).win 12).blk t).view.set := by
  obtain ⟨b, q, h, rfl⟩ : ∃ b q h, i = ix3 b q h := ⟨_, _, _, eq_ix3 i⟩
  have e := emb12 m hO (pt b q) 0 (rowIn q) h
  rw [batch_pt, row_pt] at e
  exact ⟨pt b q, e ▸ View.emb_mem_set _ _⟩

theorem point12 (t : Fin grid0.N) (y : S1x128x32.Idx) :
    (outsAt0 m hO c t).2.2.2 y = SCALES m c ((((cfgM m hO).win 12).blk t).view.emb y) := by
  obtain ⟨z, r, h, rfl⟩ : ∃ z r h, y = ix3 z r h := ⟨_, _, _, eq_ix3 y⟩
  exact (left12 m hO c t z r h).trans (congrArg (SCALES m c) (emb12 m hO t z r h)).symm

theorem final12 : (dats m hO 0 c).arrAt 12 (cfgM m hO).N = SCALES m c := by
  refine (dats m hO 0 c).arrAt_eq_of_emb 12 _ (fun t _ y => ?_) fun i => (cover12 m hO i).imp fun t ht => ⟨flush0_12 (adm m hO) t, ht⟩
  rw [after0_12]
  exact point12 m hO c t y

/-- The pipeline's condition on the prefetched tables: no index map reads one, so it says nothing. -/
theorem ok : Ok m := trivial

/-- The run, the result arrays named, the arguments unchanged. -/
theorem run : θ_run defs (onTc (τ := τ) (main (F := Ideal))) ⟨m, fun _ => 0, ρ⟩ fun r => ∀ c : Dev nD,
      r.2.mem ((c : Thread nD τ).loc main_v4_0) = OUT m c
      ∧ r.2.mem ((c : Thread nD τ).loc main_v4_1) = LSE m c
      ∧ r.2.mem ((c : Thread nD τ).loc main_v4_2) = CODES m c
      ∧ r.2.mem ((c : Thread nD τ).loc main_v4_3) = SCALES m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h.1 c).1 9).trans (final9 m (ok m) c), ((h.1 c).1 10).trans (final10 m (ok m) c),
      ((h.1 c).1 11).trans (final11 m (ok m) c), ((h.1 c).1 12).trans (final12 m (ok m) c), h.2 c⟩)
    (θ_run_and (run_main m ρ (ok m)) (unchanged m ρ (ok m)))

end Cert.KernelIdeal.Arrays
-- ==== Proof.RefValue.lean ====
/-
The reference's four results, index by index, as rows of the specification.
-/
module

public import proofs.«01_k».proof.Proof.Gen.ReferenceIdeal.Value
public import proofs.«01_k».proof.Proof.Spec

@[expose] public section

set_option synthInstance.maxSize 4096
set_option maxRecDepth 16384

noncomputable section

namespace Cert.ReferenceIdeal.Rows

open Idealize.ShloMosaic Idealize.SL.Sem
open Cert.ReferenceIdeal Cert.ReferenceIdeal.Gen Cert.ReferenceIdeal.Value

/-! ## The scale and the codes -/

section
variable {F : FTy → Type} [FloatOps F]

/-- The largest magnitude of each query row. -/
def amax (x : Vec F S3x512x32x128 .bf16) : FVec F S3x512x32 .f32 :=
  multiReduction .maximumf [3] S3x512x32 (absf (k0_pay3 x)) 0xFF800000#32 reduces_S3x512x32x128_S3x512x32 (.inl rfl) rfl

theorem scales_at (x : Vec F S3x512x32x128 .bf16) (b : Fin 3) (i : Fin 512) (h : Fin 32) :
    k0_pay4 x (ix3 b i h) = Spec.scaleOf (amax x (ix3 b i h)) := by
  pointwise! [k0_pay4, Spec.scaleOf, amax]

theorem codes_at (x : Vec F S3x512x32x128 .bf16) (b : Fin 3) (i : Fin 512) (h : Fin 32) (d : Fin 128) :
    k0_pay5 x (ix4 b i h d)
      = FloatOps.truncf .fp8e4m3 bitsLt_fp8e4m3_f32
          (Spec.clipOf (FloatOps.extf .f32 bitsLt_bf16_f32 (x (ix4 b i h d))) (Spec.scaleOf (amax x (ix3 b i h)))) := by
  pointwise! [k0_pay5, k0_pay4, k0_pay3, Spec.scaleOf, Spec.clipOf, amax]

/-! ## The head axis split in two -/

/-- The place of a query head among its key/value head's four. -/
def inGroup (h : Fin 32) : Fin 4 := ⟨h.val % 4, Nat.mod_lt _ (by decide)⟩

theorem split4 {φ : FTy} (x : FVec F S3x512x32x128 φ) (b : Fin 3) (i : Fin 512) (h : Fin 32) (d : Fin 128) :
    shapeCast S3x512x8x4x128 x shapeCasts_S3x512x32x128_S3x512x8x4x128 (ix5 b i (Spec.kvOf h) (inGroup h) d)
      = x (ix4 b i h d) := by
  pointwise
  congr 2
  exact Fin.ext (by simp only [Spec.kvOf, inGroup]; omega)

theorem split3 {φ : FTy} (x : FVec F S3x512x32 φ) (b : Fin 3) (i : Fin 512) (h : Fin 32) :
    shapeCast S3x512x8x4 x shapeCasts_S3x512x32_S3x512x8x4 (ix4 b i (Spec.kvOf h) (inGroup h))
      = x (ix3 b i h) := by
  pointwise
  congr 2
  exact Fin.ext (by simp only [Spec.kvOf, inGroup]; omega)

theorem scaleT_at (x : Vec F S3x512x32x128 .bf16) (b : Fin 3) (i : Fin 512) (h : Fin 32) :
    k0_pay11 x (ix4 b (Spec.kvOf h) (inGroup h) i) = k0_pay4 x (ix3 b i h) := by
  rw [← split3 (k0_pay4 x)]
  pointwise! [k0_pay11]

theorem lseT_at (x : FVec F S3x512x8x4 .f32) (b : Fin 3) (i : Fin 512) (k : Fin 8) (g : Fin 4) :
    k0_pay13 x (ix4 b k g i) = x (ix4 b i k g) := by
  pointwise! [k0_pay13]

end

theorem amax_at (x : Vec Ideal S3x512x32x128 .bf16) (b : Fin 3) (i : Fin 512) (h : Fin 32) :
    amax x (ix3 b i h) = Spec.top fun d => max (x (ix4 b i h d)) (-x (ix4 b i h d)) := by
  pointwise [amax, k0_pay3, Spec.top, Spec.bot]
  rfl

/-! ## The rows -/

section
variable (a0 : Vec Ideal S3x512x32x128 .bf16) (a1 a2 : Vec Ideal S3x512 .i32)
  (a3 : Vec Ideal S3x512x8x128 .fp8e4m3) (a4 : Vec Ideal S3x512x8 .f32) (a5 : Vec Ideal S3x512x8x128 .fp8e4m3)
  (a6 : Vec Ideal S3x512x8 .f32) (a7 : Vec Ideal S3x512x32x128 .f32) (a8 : Vec Ideal S3x512x32 .f32)
  (b : Fin 3) (i : Fin 512) (h : Fin 32)

theorem scale_row : k0_pay4 a0 (ix3 b i h) = (Spec.rowAt a0 a1 a2 a3 a4 a5 a6 a7 a8 b i h).scale := by
  rw [scales_at, amax_at]; rfl

theorem code_row (d : Fin 128) :
    k0_pay5 a0 (ix4 b i h d) = (Spec.rowAt a0 a1 a2 a3 a4 a5 a6 a7 a8 b i h).code d := by
  rw [codes_at, amax_at]; rfl

theorem code_split (d : Fin 128) :
    k0_pay9 a0 (ix5 b i (Spec.kvOf h) (inGroup h) d) = (Spec.rowAt a0 a1 a2 a3 a4 a5 a6 a7 a8 b i h).code d := by
  rw [← code_row, ← split4 (k0_pay5 a0)]; rfl

theorem s2_at (v20 : FVec Ideal S3x8x1x1x512 .f32) (v26 : FVec Ideal S3x512x8x4x128 .fp8e4m3)
    (v30 : FVec Ideal S3x8x4x512 .f32) (v34 v36 : Vec Ideal S3x512 .i32) (v41 : Vec Ideal S3x512x8x128 .fp8e4m3)
    (k : Fin 8) (g : Fin 4) (j : Fin 512) :
    k0_pay14 v20 v26 v30 v34 v36 v41 (ix5 b k g i j)
      = Scalar.select (IntOp.cmpi .sle (v34 (ix2 b j)) (v36 (ix2 b i)))
          ((∑ x, v41 (ix4 b j k x) * v26 (ix5 b i k g x)) * v30 (ix4 b k g i) * v20 (ix5 b k 0 0 j)
            * Ideal.ofBits .f32 1035273459#32 * Ideal.ofBits .f32 1069066811#32) Spec.bot := by
  pointwise! [k0_pay14, Spec.bot]

theorem s2_row (j : Fin 512) :
    k0_pay14 (k0_pay6 a4) (k0_pay9 a0) (k0_pay11 a0) a2 a1 a3 (ix5 b (Spec.kvOf h) (inGroup h) i j) = (Spec.rowAt a0 a1 a2 a3 a4 a5 a6 a7 a8 b i h).s2 j := by
  rw [s2_at, scaleT_at, scale_row a0 a1 a2 a3 a4 a5 a6 a7 a8]
  simp only [code_split a0 a1 a2 a3 a4 a5 a6 a7 a8]
  pointwise! [k0_pay6, Spec.rowAt, Spec.Row.s2]

theorem lse_row :
    k0_pay13 (k0_pay12 a8) (ix4 b (Spec.kvOf h) (inGroup h) i) = (Spec.rowAt a0 a1 a2 a3 a4 a5 a6 a7 a8 b i h).lse := by
  rw [lseT_at]; exact split3 (F := Ideal) (φ := .f32) a8 b i h

theorem m_at (v20 : FVec Ideal S3x8x1x1x512 .f32) (v26 : FVec Ideal S3x512x8x4x128 .fp8e4m3)
    (v30 : FVec Ideal S3x8x4x512 .f32) (v32 : FVec Ideal S3x512x8x4 .f32) (v34 v36 : Vec Ideal S3x512 .i32)
    (v41 : Vec Ideal S3x512x8x128 .fp8e4m3) (k : Fin 8) (g : Fin 4) :
    k0_pay15 v20 v26 v30 v32 v34 v36 v41 (ix4 b k g i)
      = Ideal.liftRound Int.ceil (max (k0_pay13 v32 (ix4 b k g i))
          (Spec.top fun j => k0_pay14 v20 v26 v30 v34 v36 v41 (ix5 b k g i j))) := by
  pointwise! [k0_pay15, Spec.top, Spec.bot]

theorem m_row :
    k0_pay15 (k0_pay6 a4) (k0_pay9 a0) (k0_pay11 a0) (k0_pay12 a8) a2 a1 a3 (ix4 b (Spec.kvOf h) (inGroup h) i) = (Spec.rowAt a0 a1 a2 a3 a4 a5 a6 a7 a8 b i h).m := by
  rw [m_at, lse_row a0 a1 a2 a3 a4 a5 a6 a7 a8]
  simp only [s2_row a0 a1 a2 a3 a4 a5 a6 a7 a8]
  rfl

theorem w_row :
    k0_pay16 (k0_pay6 a4) (k0_pay9 a0) (k0_pay11 a0) (k0_pay12 a8) a2 a1 a3 (ix4 b (Spec.kvOf h) (inGroup h) i) = (Spec.rowAt a0 a1 a2 a3 a4 a5 a6 a7 a8 b i h).w := by
  show Ideal.exp2 (k0_pay13 (k0_pay12 a8) _ - k0_pay15 (k0_pay6 a4) (k0_pay9 a0) (k0_pay11 a0) (k0_pay12 a8) a2 a1 a3 _) = _
  rw [lse_row a0 a1 a2 a3 a4 a5 a6 a7 a8, m_row a0 a1 a2 a3 a4 a5 a6 a7 a8]; rfl

theorem p_at (v20 : FVec Ideal S3x8x1x1x512 .f32) (v26 : FVec Ideal S3x512x8x4x128 .fp8e4m3)
    (v30 : FVec Ideal S3x8x4x512 .f32) (v32 : FVec Ideal S3x512x8x4 .f32) (v34 v36 : Vec Ideal S3x512 .i32)
    (v41 : Vec Ideal S3x512x8x128 .fp8e4m3) (k : Fin 8) (g : Fin 4) (j : Fin 512) :
    k0_pay17 v20 v26 v30 v32 v34 v36 v41 (ix5 b k g i j)
      = Ideal.exp2 (k0_pay14 v20 v26 v30 v34 v36 v41 (ix5 b k g i j)
          - k0_pay15 v20 v26 v30 v32 v34 v36 v41 (ix4 b k g i)) := by
  pointwise! [k0_pay17]

theorem p_row (j : Fin 512) :
    k0_pay17 (k0_pay6 a4) (k0_pay9 a0) (k0_pay11 a0) (k0_pay12 a8) a2 a1 a3 (ix5 b (Spec.kvOf h) (inGroup h) i j) = (Spec.rowAt a0 a1 a2 a3 a4 a5 a6 a7 a8 b i h).p j := by
  rw [p_at, s2_row a0 a1 a2 a3 a4 a5 a6 a7 a8, m_row a0 a1 a2 a3 a4 a5 a6 a7 a8]; rfl

theorem l_at (v20 : FVec Ideal S3x8x1x1x512 .f32) (v26 : FVec Ideal S3x512x8x4x128 .fp8e4m3)
    (v30 : FVec Ideal S3x8x4x512 .f32) (v32 : FVec Ideal S3x512x8x4 .f32) (v34 v36 : Vec Ideal S3x512 .i32)
    (v41 : Vec Ideal S3x512x8x128 .fp8e4m3) (k : Fin 8) (g : Fin 4) :
    k0_pay18 v20 v26 v30 v32 v34 v36 v41 (ix4 b k g i)
      = k0_pay16 v20 v26 v30 v32 v34 v36 v41 (ix4 b k g i)
          + ∑ j, k0_pay17 v20 v26 v30 v32 v34 v36 v41 (ix5 b k g i j) := by
  pointwise! [k0_pay18]

theorem l_row :
    k0_pay18 (k0_pay6 a4) (k0_pay9 a0) (k0_pay11 a0) (k0_pay12 a8) a2 a1 a3 (ix4 b (Spec.kvOf h) (inGroup h) i) = (Spec.rowAt a0 a1 a2 a3 a4 a5 a6 a7 a8 b i h).l := by
  rw [l_at, w_row a0 a1 a2 a3 a4 a5 a6 a7 a8]
  simp only [p_row a0 a1 a2 a3 a4 a5 a6 a7 a8]
  rfl

theorem pv_at (v20 v23 : FVec Ideal S3x8x1x1x512 .f32) (v25 : FVec Ideal S3x512x8x128 .bf16)
    (v26 : FVec Ideal S3x512x8x4x128 .fp8e4m3)
    (v30 : FVec Ideal S3x8x4x512 .f32) (v32 : FVec Ideal S3x512x8x4 .f32) (v34 v36 : Vec Ideal S3x512 .i32)
    (v41 : Vec Ideal S3x512x8x128 .fp8e4m3) (k : Fin 8) (g : Fin 4) (d : Fin 128) :
    k0_pay19 v20 v23 v25 v26 v30 v32 v34 v36 v41 (ix5 b i k g d)
      = ∑ j, v25 (ix4 b j k d) * (k0_pay17 v20 v26 v30 v32 v34 v36 v41 (ix5 b k g i j) * v23 (ix5 b k 0 0 j)) := by
  pointwise! [k0_pay19]

theorem vs_at (k : Fin 8) (j : Fin 512) : k0_pay7 a6 (ix5 b k 0 0 j) = a6 (ix3 b j k) := by
  pointwise! [k0_pay7]

theorem pv_row (d : Fin 128) :
    k0_pay19 (k0_pay6 a4) (k0_pay7 a6) (k0_pay8 a5) (k0_pay9 a0) (k0_pay11 a0) (k0_pay12 a8) a2 a1 a3 (ix5 b i (Spec.kvOf h) (inGroup h) d)
      = (Spec.rowAt a0 a1 a2 a3 a4 a5 a6 a7 a8 b i h).pv d := by
  rw [pv_at]
  refine Finset.sum_congr rfl fun j _ => ?_
  rw [p_row a0 a1 a2 a3 a4 a5 a6 a7 a8, vs_at, mul_comm]
  rfl

theorem out_at (v28 v73 : FVec Ideal S3x512x8x4x128 .f32) (w l : FVec Ideal S3x8x4x512 .f32) (d : Fin 128) :
    k0_pay1 v28 v73
        (shapeCast S3x512x8x4x1 (transpose S3x512x8x4 [0, 3, 1, 2] w transposes_S3x8x4x512_p0_3_1_2_S3x512x8x4)
          shapeCasts_S3x512x8x4_S3x512x8x4x1)
        (shapeCast S3x512x8x4x1 (transpose S3x512x8x4 [0, 3, 1, 2] l transposes_S3x8x4x512_p0_3_1_2_S3x512x8x4)
          shapeCasts_S3x512x8x4_S3x512x8x4x1) (ix4 b i h d)
      = Ideal.div
          (v28 (ix5 b i (Spec.kvOf h) (inGroup h) d) * w (ix4 b (Spec.kvOf h) (inGroup h) i)
            + v73 (ix5 b i (Spec.kvOf h) (inGroup h) d))
          (l (ix4 b (Spec.kvOf h) (inGroup h) i)) := by
  pointwise! [k0_pay1, Spec.kvOf, inGroup]

theorem lseOut_at (m l : FVec Ideal S3x8x4x512 .f32) :
    k0_pay2 m l (ix3 b i h)
      = m (ix4 b (Spec.kvOf h) (inGroup h) i)
          + Ideal.div (Ideal.log (l (ix4 b (Spec.kvOf h) (inGroup h) i))) (Ideal.ofBits .f32 1060205080#32)
          - Ideal.ofBits .f32 1091567616#32 := by
  pointwise! [k0_pay2, Spec.kvOf, inGroup]

/-! ## The results -/

theorem q_loads : k0_pay23 a0 a1 a2 a3 a4 a5 a6 a7 a8 = k0_pay9 a0 :=
  congrArg k0_pay9 (View.ld_unit_zero (S := S3x512x32x128) hz0 _ a0)

theorem sc_loads : k0_pay24 a0 a1 a2 a3 a4 a5 a6 a7 a8 = k0_pay11 a0 :=
  congrArg k0_pay11 (View.ld_unit_zero (S := S3x512x32x128) hz0 _ a0)

theorem ks_loads : k0_pay22 a0 a1 a2 a3 a4 a5 a6 a7 a8 = k0_pay6 a4 :=
  congrArg k0_pay6 (View.ld_unit_zero (S := S3x512x8) (by funext a; fin_cases a <;> rfl) _ a4)

theorem lse_loads : k0_pay25 a0 a1 a2 a3 a4 a5 a6 a7 a8 = k0_pay12 a8 :=
  congrArg k0_pay12 (View.ld_unit_zero (S := S3x512x32) (by funext a; fin_cases a <;> rfl) _ a8)

theorem G9_at (d : Fin 128) :
    G9 a0 a1 a2 a3 a4 a5 a6 a7 a8 (ix4 b i h d) = (Spec.rowAt a0 a1 a2 a3 a4 a5 a6 a7 a8 b i h).out d := by
  simp only [G9, q_loads, sc_loads, ks_loads, lse_loads]
  refine (out_at b i h _ _ (k0_pay16 (k0_pay6 a4) (k0_pay9 a0) (k0_pay11 a0) (k0_pay12 a8) a2 a1 a3) (k0_pay18 (k0_pay6 a4) (k0_pay9 a0) (k0_pay11 a0) (k0_pay12 a8) a2 a1 a3) d).trans ?_
  rw [w_row a0 a1 a2 a3 a4 a5 a6 a7 a8, l_row a0 a1 a2 a3 a4 a5 a6 a7 a8, pv_row a0 a1 a2 a3 a4 a5 a6 a7 a8]
  rw [show k0_pay10 a7 (ix5 b i (Spec.kvOf h) (inGroup h) d) = a7 (ix4 b i h d) from
    split4 (F := Ideal) (φ := .f32) a7 b i h d]
  rfl

theorem G10_at :
    G10 a0 a1 a2 a3 a4 a5 a6 a7 a8 (ix3 b i h) = (Spec.rowAt a0 a1 a2 a3 a4 a5 a6 a7 a8 b i h).lseOut := by
  simp only [G10, q_loads, sc_loads, ks_loads, lse_loads]
  rw [lseOut_at, m_row a0 a1 a2 a3 a4 a5 a6 a7 a8, l_row a0 a1 a2 a3 a4 a5 a6 a7 a8]
  rfl

theorem G11_at (d : Fin 128) :
    G11 a0 a1 a2 a3 a4 a5 a6 a7 a8 (ix4 b i h d) = (Spec.rowAt a0 a1 a2 a3 a4 a5 a6 a7 a8 b i h).code d :=
  code_row a0 a1 a2 a3 a4 a5 a6 a7 a8 b i h d

theorem G12_at :
    G12 a0 a1 a2 a3 a4 a5 a6 a7 a8 (ix3 b i h) = (Spec.rowAt a0 a1 a2 a3 a4 a5 a6 a7 a8 b i h).scale :=
  scale_row a0 a1 a2 a3 a4 a5 a6 a7 a8 b i h

end

end Cert.ReferenceIdeal.Rows
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Arrays
public import proofs.«01_k».proof.Proof.RefValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Over the extended reals the kernel and the reference end with the same four arrays: at each index both hold the
    value of the same row of the specification. -/
theorem algebraic : @Cert.algebraic_KernelIdeal_ReferenceIdeal Cert.KernelIdeal.Gen.facts Cert.ReferenceIdeal.Gen.facts := by
  intro m g m' g' _ hm
  refine ⟨Cert.KernelIdeal.Arrays.OUT m, Cert.KernelIdeal.Arrays.LSE m, Cert.KernelIdeal.Arrays.CODES m,
    Cert.KernelIdeal.Arrays.SCALES m, Cert.KernelIdeal.Arrays.run m g, ?_⟩
  refine (θ_run _ _ _).mono (fun r h c => ?_) (Cert.ReferenceIdeal.Value.run m' g')
  obtain ⟨h0, h1, h2, h3, hk⟩ := h c
  obtain ⟨e0, e1, e2, e3, e4, e5, e6, e7, e8⟩ := hm c
  refine ⟨h0.trans ?_, h1.trans ?_, h2.trans ?_, h3.trans ?_, hk⟩
  · rw [e0, e1, e2, e3, e4, e5, e6, e7, e8]
    funext y
    obtain ⟨b, i, h, d, rfl⟩ : ∃ b i h d, y = ix4 b i h d := ⟨_, _, _, _, eq_ix4 y⟩
    exact Cert.ReferenceIdeal.Rows.G9_at _ _ _ _ _ _ _ _ _ b i h d
  · rw [e0, e1, e2, e3, e4, e5, e6, e7, e8]
    funext y
    obtain ⟨b, i, h, rfl⟩ : ∃ b i h, y = ix3 b i h := ⟨_, _, _, eq_ix3 y⟩
    exact Cert.ReferenceIdeal.Rows.G10_at _ _ _ _ _ _ _ _ _ b i h
  · rw [e0, e1, e2, e3, e4, e5, e6, e7, e8]
    funext y
    obtain ⟨b, i, h, d, rfl⟩ : ∃ b i h d, y = ix4 b i h d := ⟨_, _, _, _, eq_ix4 y⟩
    exact Cert.ReferenceIdeal.Rows.G11_at _ _ _ _ _ _ _ _ _ b i h d
  · rw [e0, e1, e2, e3, e4, e5, e6, e7, e8]
    funext y
    obtain ⟨b, i, h, rfl⟩ : ∃ b i h, y = ix3 b i h := ⟨_, _, _, eq_ix3 y⟩
    exact Cert.ReferenceIdeal.Rows.G12_at _ _ _ _ _ _ _ _ _ b i h

/-- The five claims. -/
theorem claim : Cert.Claim := ⟨Cert.Kernel.Gen.facts, Cert.KernelIdeal.Gen.facts, Cert.ReferenceIdeal.Gen.facts,
  fun m ρ _ => Cert.Kernel.Gen.frame m ρ trivial, fun m ρ _ => Cert.KernelIdeal.Gen.frame m ρ trivial,
  fun m ρ _ => Cert.ReferenceIdeal.Gen.frame m ρ, trivial, algebraic⟩

end Cert.Proof

end
